-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x1024x18432 : Shape := ⟨3, ![4, 1024, 18432]⟩
abbrev S18432x7168 : Shape := ⟨2, ![18432, 7168]⟩
abbrev S7168 : Shape := ⟨1, ![7168]⟩
abbrev S18432x13 : Shape := ⟨2, ![18432, 13]⟩
abbrev S13 : Shape := ⟨1, ![13]⟩
abbrev S4x1024x2 : Shape := ⟨3, ![4, 1024, 2]⟩
abbrev S18432x160 : Shape := ⟨2, ![18432, 160]⟩
abbrev S160x7168 : Shape := ⟨2, ![160, 7168]⟩
abbrev S_ : Shape := ⟨0, ![]⟩
abbrev S4x1024 : Shape := ⟨2, ![4, 1024]⟩

class Facts : Prop where
  bitsLt_bf16_f32 : FTy.bits .bf16 < FTy.bits .f32
  reducesTo_S4x1024x18432_S4x1024_d2 : S4x1024x18432.ReducesTo [2] S4x1024
  h_S_ : 0 < S_.numel
  bcast_S_S4x1024 : S_.BroadcastsInDim S4x1024 (![] : Fin 0 → Fin S4x1024.rank)
  bcast_S_S4x1024x2 : S_.BroadcastsInDim S4x1024x2 (![] : Fin 0 → Fin S4x1024x2.rank)

variable [Facts]

def fn_part1 {F : FTy → Type} [FloatOps F] (main_v12 : IVec S4x1024 1) (main_v14 : IVec S4x1024x2 1) (main_v16 : IVec S4x1024x2 1) : IVec S4x1024 1 × IVec S4x1024x2 1 :=
  let main_v17 : IVec S4x1024x2 1 := andi main_v14 main_v16
  (main_v12, main_v17)

def fn {F : FTy → Type} [FloatOps F] (main_arg0 : FVec F S4x1024x18432 .bf16) (main_arg1 : FVec F S18432x7168 .fp8e4m3) (main_arg2 : FVec F S7168 .f32) (main_arg3 : FVec F S18432x13 .bf16) (main_arg4 : FVec F S13 .f32) (main_arg5 : IVec S4x1024x2 32) (main_arg6 : FVec F S18432x160 .bf16) (main_arg7 : FVec F S160x7168 .bf16) : IVec S4x1024 1 × IVec S4x1024x2 1 :=
  let main_v0 : FVec F S4x1024x18432 .f32 := (extf .f32 · bitsLt_bf16_f32) main_arg0
  let main_v1 : FVec F S4x1024x18432 .f32 := Host.absf main_v0
  let main_cst : FVec F S_ .f32 := constant S_ .f32 0xFF800000#32
  let main_v2 : FVec F S4x1024 .f32 := (fun x v => Host.reduce FloatOps.maximumf x v reducesTo_S4x1024x18432_S4x1024_d2 h_S_) main_v1 main_cst
  let main_cst_0 : FVec F S_ .f32 := constant S_ .f32 0x3B124925#32
  let main_v3 : FVec F S4x1024 .f32 := broadcastInDim S4x1024 ![] bcast_S_S4x1024 main_cst_0
  let main_v4 : FVec F S4x1024 .f32 := mulf main_v2 main_v3
  let main_cst_1 : FVec F S_ .f32 := constant S_ .f32 0x00000000#32
  let main_v5 : FVec F S4x1024 .f32 := broadcastInDim S4x1024 ![] bcast_S_S4x1024 main_cst_1
  let main_v6 : IVec S4x1024 1 := cmpf .oeq main_v2 main_v5
  let main_cst_2 : FVec F S_ .f32 := constant S_ .f32 0x00800000#32
  let main_v7 : FVec F S4x1024 .f32 := broadcastInDim S4x1024 ![] bcast_S_S4x1024 main_cst_2
  let main_v8 : IVec S4x1024 1 := cmpf .oge main_v4 main_v7
  let main_cst_3 : FVec F S_ .f32 := constant S_ .f32 0x7E800000#32
  let main_v9 : FVec F S4x1024 .f32 := broadcastInDim S4x1024 ![] bcast_S_S4x1024 main_cst_3
  let main_v10 : IVec S4x1024 1 := cmpf .olt main_v4 main_v9
  let main_v11 : IVec S4x1024 1 := andi main_v8 main_v10
  let main_v12 : IVec S4x1024 1 := ori main_v6 main_v11
  let main_c : IVec S_ 32 := constantI S_ 32 0#32
  let main_v13 : IVec S4x1024x2 32 := broadcastInDim S4x1024x2 ![] bcast_S_S4x1024x2 main_c
  let main_v14 : IVec S4x1024x2 1 := cmpi .sge main_arg5 main_v13
  let main_c_4 : IVec S_ 32 := constantI S_ 32 13#32
  let main_v15 : IVec S4x1024x2 32 := broadcastInDim S4x1024x2 ![] bcast_S_S4x1024x2 main_c_4
  let main_v16 : IVec S4x1024x2 1 := cmpi .slt main_arg5 main_v15
  fn_part1 (F := F) main_v12 main_v14 main_v16
-- ==== Kernel.lean ====
abbrev S4x1024x18432 : Shape := ⟨3, ![4, 1024, 18432]⟩
abbrev S18432x7168 : Shape := ⟨2, ![18432, 7168]⟩
abbrev S7168 : Shape := ⟨1, ![7168]⟩
abbrev S18432x13 : Shape := ⟨2, ![18432, 13]⟩
abbrev S13 : Shape := ⟨1, ![13]⟩
abbrev S4x1024x2 : Shape := ⟨3, ![4, 1024, 2]⟩
abbrev S18432x160 : Shape := ⟨2, ![18432, 160]⟩
abbrev S160x7168 : Shape := ⟨2, ![160, 7168]⟩
abbrev S256 : Shape := ⟨1, ![256]⟩
abbrev S1x256 : Shape := ⟨2, ![1, 256]⟩
abbrev S4096x18432 : Shape := ⟨2, ![4096, 18432]⟩
abbrev S4096x2 : Shape := ⟨2, ![4096, 2]⟩
abbrev S_ : Shape := ⟨0, ![]⟩
abbrev S18432x83 : Shape := ⟨2, ![18432, 83]⟩
abbrev S18432x256 : Shape := ⟨2, ![18432, 256]⟩
abbrev S128 : Shape := ⟨1, ![128]⟩
abbrev S1x128 : Shape := ⟨2, ![1, 128]⟩
abbrev S4096x128 : Shape := ⟨2, ![4096, 128]⟩
abbrev S4096x256 : Shape := ⟨2, ![4096, 256]⟩
abbrev S256x18432 : Shape := ⟨2, ![256, 18432]⟩
abbrev S256x2 : Shape := ⟨2, ![256, 2]⟩
abbrev S256x128 : Shape := ⟨2, ![256, 128]⟩
abbrev S256x256 : Shape := ⟨2, ![256, 256]⟩
abbrev S256x1 : Shape := ⟨2, ![256, 1]⟩
abbrev S1x7168 : Shape := ⟨2, ![1, 7168]⟩
abbrev S4096x7168 : Shape := ⟨2, ![4096, 7168]⟩
abbrev S512x18432 : Shape := ⟨2, ![512, 18432]⟩
abbrev S18432x512 : Shape := ⟨2, ![18432, 512]⟩
abbrev S512x128 : Shape := ⟨2, ![512, 128]⟩
abbrev S1x512 : Shape := ⟨2, ![1, 512]⟩
abbrev S512x256 : Shape := ⟨2, ![512, 256]⟩
abbrev S160x512 : Shape := ⟨2, ![160, 512]⟩
abbrev S512x512 : Shape := ⟨2, ![512, 512]⟩
abbrev S512x160 : Shape := ⟨2, ![512, 160]⟩
abbrev S512x1 : Shape := ⟨2, ![512, 1]⟩
abbrev S4x1024x7168 : Shape := ⟨3, ![4, 1024, 7168]⟩
abbrev S4096x1 : Shape := ⟨2, ![4096, 1]⟩
abbrev S4096 : Shape := ⟨1, ![4096]⟩
abbrev S4x1024 : Shape := ⟨2, ![4, 1024]⟩

abbrev nBuf : Space → Nat
  | .hbm => 31
  | .vmem => 29
  | .smem => 0
  | _ => 0

abbrev bufTy : (tb : Table) → Fin (tcTables nBuf tb) → BufTy
  | .hbm, ⟨0, _⟩ => ⟨S4x1024x18432, .bf16⟩
  | .hbm, ⟨1, _⟩ => ⟨S18432x7168, .fp8e4m3⟩
  | .hbm, ⟨2, _⟩ => ⟨S7168, .f32⟩
  | .hbm, ⟨3, _⟩ => ⟨S18432x13, .bf16⟩
  | .hbm, ⟨4, _⟩ => ⟨S13, .f32⟩
  | .hbm, ⟨5, _⟩ => ⟨S4x1024x2, .i32⟩
  | .hbm, ⟨6, _⟩ => ⟨S18432x160, .bf16⟩
  | .hbm, ⟨7, _⟩ => ⟨S160x7168, .bf16⟩
  | .hbm, ⟨8, _⟩ => ⟨S256, .i32⟩
  | .hbm, ⟨9, _⟩ => ⟨S1x256, .i32⟩
  | .hbm, ⟨10, _⟩ => ⟨S4096x18432, .bf16⟩
  | .hbm, ⟨11, _⟩ => ⟨S4096x2, .i32⟩
  | .hbm, ⟨12, _⟩ => ⟨S_, .bf16⟩
  | .hbm, ⟨13, _⟩ => ⟨S18432x83, .bf16⟩
  | .hbm, ⟨14, _⟩ => ⟨S18432x256, .bf16⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S4096x18432, .fp8e4m3⟩
  | .hbm, ⟨20, _⟩ => ⟨S4096x128, .f32⟩
  | .hbm, ⟨21, _⟩ => ⟨S4096x2, .f32⟩
  | .hbm, ⟨22, _⟩ => ⟨S4096x256, .bf16⟩
  | .hbm, ⟨23, _⟩ => ⟨S1x7168, .f32⟩
  | .hbm, ⟨24, _⟩ => ⟨S4096x7168, .bf16⟩
  | .hbm, ⟨25, _⟩ => ⟨S4x1024x7168, .bf16⟩
  | .hbm, ⟨26, _⟩ => ⟨S4x1024x2, .f32⟩
  | .hbm, ⟨27, _⟩ => ⟨S4x1024x18432, .fp8e4m3⟩
  | .hbm, ⟨28, _⟩ => ⟨S4096x1, .f32⟩
  | .hbm, ⟨29, _⟩ => ⟨S4096, .f32⟩
  | .hbm, ⟨30, _⟩ => ⟨S4x1024, .f32⟩
  | .local _ .vmem, ⟨0, _⟩ => ⟨S256x18432, .bf16⟩
  | .local _ .vmem, ⟨1, _⟩ => ⟨S256x18432, .bf16⟩
  | .local _ .vmem, ⟨2, _⟩ => ⟨S18432x256, .bf16⟩
  | .local _ .vmem, ⟨3, _⟩ => ⟨S1x128, .f32⟩
  | .local _ .vmem, ⟨4, _⟩ => ⟨S256x2, .i32⟩
  | .local _ .vmem, ⟨5, _⟩ => ⟨S256x2, .i32⟩
  | .local _ .vmem, ⟨6, _⟩ => ⟨S1x256, .i32⟩
  | .local _ .vmem, ⟨7, _⟩ => ⟨S256x18432, .fp8e4m3⟩
  | .local _ .vmem, ⟨8, _⟩ => ⟨S256x18432, .fp8e4m3⟩
  | .local _ .vmem, ⟨9, _⟩ => ⟨S256x128, .f32⟩
  | .local _ .vmem, ⟨10, _⟩ => ⟨S256x128, .f32⟩
  | .local _ .vmem, ⟨11, _⟩ => ⟨S256x2, .f32⟩
  | .local _ .vmem, ⟨12, _⟩ => ⟨S256x2, .f32⟩
  | .local _ .vmem, ⟨13, _⟩ => ⟨S256x256, .bf16⟩
  | .local _ .vmem, ⟨14, _⟩ => ⟨S256x256, .bf16⟩
  | .local _ .vmem, ⟨15, _⟩ => ⟨S512x18432, .fp8e4m3⟩
  | .local _ .vmem, ⟨16, _⟩ => ⟨S512x18432, .fp8e4m3⟩
  | .local _ .vmem, ⟨17, _⟩ => ⟨S18432x512, .fp8e4m3⟩
  | .local _ .vmem, ⟨18, _⟩ => ⟨S18432x512, .fp8e4m3⟩
  | .local _ .vmem, ⟨19, _⟩ => ⟨S512x128, .f32⟩
  | .local _ .vmem, ⟨20, _⟩ => ⟨S512x128, .f32⟩
  | .local _ .vmem, ⟨21, _⟩ => ⟨S1x512, .f32⟩
  | .local _ .vmem, ⟨22, _⟩ => ⟨S1x512, .f32⟩
  | .local _ .vmem, ⟨23, _⟩ => ⟨S512x256, .bf16⟩
  | .local _ .vmem, ⟨24, _⟩ => ⟨S512x256, .bf16⟩
  | .local _ .vmem, ⟨25, _⟩ => ⟨S160x512, .bf16⟩
  | .local _ .vmem, ⟨26, _⟩ => ⟨S160x512, .bf16⟩
  | .local _ .vmem, ⟨27, _⟩ => ⟨S512x512, .bf16⟩
  | .local _ .vmem, ⟨28, _⟩ => ⟨S512x512, .bf16⟩
  | _, _ => ⟨S4x1024x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18432x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x18432 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![8, 14], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x18432 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S18432x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S160x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S4x1024x18432 : Shape := ⟨3, ![4, 1024, 18432]⟩
abbrev S18432x7168 : Shape := ⟨2, ![18432, 7168]⟩
abbrev S7168 : Shape := ⟨1, ![7168]⟩
abbrev S18432x13 : Shape := ⟨2, ![18432, 13]⟩
abbrev S13 : Shape := ⟨1, ![13]⟩
abbrev S4x1024x2 : Shape := ⟨3, ![4, 1024, 2]⟩
abbrev S18432x160 : Shape := ⟨2, ![18432, 160]⟩
abbrev S160x7168 : Shape := ⟨2, ![160, 7168]⟩
abbrev S_ : Shape := ⟨0, ![]⟩
abbrev S4x1024 : Shape := ⟨2, ![4, 1024]⟩
abbrev S4096x18432 : Shape := ⟨2, ![4096, 18432]⟩
abbrev S4096x1 : Shape := ⟨2, ![4096, 1]⟩
abbrev S4096x7168 : Shape := ⟨2, ![4096, 7168]⟩
abbrev S4x1024x7168 : Shape := ⟨3, ![4, 1024, 7168]⟩
abbrev S4x1024x1 : Shape := ⟨3, ![4, 1024, 1]⟩
abbrev S1x1x7168 : Shape := ⟨3, ![1, 1, 7168]⟩
abbrev S4x1024x13 : Shape := ⟨3, ![4, 1024, 13]⟩
abbrev S1x1x13 : Shape := ⟨3, ![1, 1, 13]⟩
abbrev S4x1024x2x1 : Shape := ⟨4, ![4, 1024, 2, 1]⟩
abbrev S1 : Shape := ⟨1, ![1]⟩
abbrev S1x1x1x1 : Shape := ⟨4, ![1, 1, 1, 1]⟩
abbrev S1x1x1x13 : Shape := ⟨4, ![1, 1, 1, 13]⟩
abbrev S4x1024x2x13 : Shape := ⟨4, ![4, 1024, 2, 13]⟩
abbrev S160 : Shape := ⟨1, ![160]⟩
abbrev S4x1024x160 : Shape := ⟨3, ![4, 1024, 160]⟩
abbrev S160x1 : Shape := ⟨2, ![160, 1]⟩

abbrev nBuf : Space → Nat
  | .hbm => 136
  | .vmem => 5
  | .smem => 0
  | _ => 0

abbrev hbmTy0_0 (i : Nat) : BufTy := match i % 128 with
  | 0 => ⟨S4x1024x18432, .bf16⟩
  | 1 => ⟨S18432x7168, .fp8e4m3⟩
  | 2 => ⟨S7168, .f32⟩
  | 3 => ⟨S18432x13, .bf16⟩
  | 4 => ⟨S13, .f32⟩
  | 5 => ⟨S4x1024x2, .i32⟩
  | 6 => ⟨S18432x160, .bf16⟩
  | 7 => ⟨S160x7168, .bf16⟩
  | 8 => ⟨S4x1024x18432, .f32⟩
  | 9 => ⟨S4x1024x18432, .f32⟩
  | 10 => ⟨S_, .f32⟩
  | 11 => ⟨S4x1024, .f32⟩
  | 12 => ⟨S_, .f32⟩
  | 13 => ⟨S4x1024, .f32⟩
  | 14 => ⟨S4x1024, .f32⟩
  | 15 => ⟨S4x1024, .f32⟩
  | 16 => ⟨S_, .f32⟩
  | 17 => ⟨S_, .f32⟩
  | 18 => ⟨S4x1024, .f32⟩
  | 19 => ⟨S4x1024, .f32⟩
  | 20 => ⟨S4x1024, .f32⟩
  | 21 => ⟨S_, .f32⟩
  | 22 => ⟨S4x1024, .f32⟩
  | 23 => ⟨S4x1024, .f32⟩
  | 24 => ⟨S_, .f32⟩
  | 25 => ⟨S4x1024, .f32⟩
  | 26 => ⟨S4x1024, .i1⟩
  | 27 => ⟨S_, .f32⟩
  | 28 => ⟨S_, .f32⟩
  | 29 => ⟨S4x1024, .f32⟩
  | 30 => ⟨S4x1024, .f32⟩
  | 31 => ⟨S_, .f32⟩
  | 32 => ⟨S4x1024, .f32⟩
  | 33 => ⟨S4x1024, .f32⟩
  | 34 => ⟨S4x1024, .f32⟩
  | 35 => ⟨S4x1024, .f32⟩
  | 36 => ⟨S4096x18432, .bf16⟩
  | 37 => ⟨S4096x1, .f32⟩
  | 38 => ⟨S4096x18432, .fp8e4m3⟩
  | 39 => ⟨S4096x7168, .f32⟩
  | 40 => ⟨S4x1024x7168, .f32⟩
  | 41 => ⟨S4x1024x1, .f32⟩
  | 42 => ⟨S4x1024x7168, .f32⟩
  | 43 => ⟨S4x1024x7168, .f32⟩
  | 44 => ⟨S1x1x7168, .f32⟩
  | 45 => ⟨S4x1024x7168, .f32⟩
  | 46 => ⟨S4x1024x7168, .f32⟩
  | 47 => ⟨S4x1024x13, .f32⟩
  | 48 => ⟨S1x1x13, .f32⟩
  | 49 => ⟨S4x1024x13, .f32⟩
  | 50 => ⟨S4x1024x13, .f32⟩
  | 51 => ⟨S_, .f32⟩
  | 52 => ⟨S4x1024, .f32⟩
  | 53 => ⟨S_, .f32⟩
  | 54 => ⟨S4x1024, .f32⟩
  | 55 => ⟨S4x1024, .f32⟩
  | 56 => ⟨S4x1024x1, .f32⟩
  | 57 => ⟨S4x1024x13, .f32⟩
  | 58 => ⟨S4x1024x13, .f32⟩
  | 59 => ⟨S4x1024x13, .f32⟩
  | 60 => ⟨S_, .f32⟩
  | 61 => ⟨S4x1024, .f32⟩
  | 62 => ⟨S4x1024x1, .f32⟩
  | 63 => ⟨S4x1024x13, .f32⟩
  | 64 => ⟨S4x1024x13, .f32⟩
  | 65 => ⟨S_, .i32⟩
  | 66 => ⟨S4x1024x2, .i32⟩
  | 67 => ⟨S4x1024x2, .i1⟩
  | 68 => ⟨S_, .i32⟩
  | 69 => ⟨S4x1024x2, .i32⟩
  | 70 => ⟨S4x1024x2, .i32⟩
  | 71 => ⟨S4x1024x2, .i32⟩
  | 72 => ⟨S4x1024x2x1, .i32⟩
  | 73 => ⟨S1, .i32⟩
  | 74 => ⟨S_, .i32⟩
  | 75 => ⟨S4x1024x2x1, .i32⟩
  | 76 => ⟨S4x1024x2x1, .i1⟩
  | 77 => ⟨S1x1x1x1, .i32⟩
  | 78 => ⟨S4x1024x2x1, .i32⟩
  | 79 => ⟨S4x1024x2x1, .i1⟩
  | 80 => ⟨S4x1024x2x1, .i1⟩
  | 81 => ⟨S_, .i1⟩
  | 82 => ⟨S4x1024x2, .i1⟩
  | 83 => ⟨S4x1024x2, .f32⟩
  | 84 => ⟨S_, .f32⟩
  | 85 => ⟨S4x1024x2, .f32⟩
  | 86 => ⟨S4x1024x2, .f32⟩
  | 87 => ⟨S_, .f32⟩
  | 88 => ⟨S4x1024, .f32⟩
  | 89 => ⟨S4x1024x1, .f32⟩
  | 90 => ⟨S4x1024x2, .f32⟩
  | 91 => ⟨S4x1024x2, .f32⟩
  | 92 => ⟨S4x1024x2x1, .i32⟩
  | 93 => ⟨S1x1x1x13, .i32⟩
  | 94 => ⟨S4x1024x2x13, .i32⟩
  | 95 => ⟨S4x1024x2x13, .i32⟩
  | 96 => ⟨S4x1024x2x13, .i1⟩
  | 97 => ⟨S4x1024x2x13, .f32⟩
  | 98 => ⟨S4x1024x2x1, .f32⟩
  | 99 => ⟨S4x1024x2x13, .f32⟩
  | 100 => ⟨S4x1024x2x13, .f32⟩
  | 101 => ⟨S_, .f32⟩
  | 102 => ⟨S4x1024x13, .f32⟩
  | 103 => ⟨S160, .i32⟩
  | 104 => ⟨S_, .i32⟩
  | 105 => ⟨S160, .i32⟩
  | 106 => ⟨S160, .i32⟩
  | 107 => ⟨S_, .i32⟩
  | 108 => ⟨S160, .i32⟩
  | 109 => ⟨S160, .i32⟩
  | 110 => ⟨S_, .i32⟩
  | 111 => ⟨S160, .i32⟩
  | 112 => ⟨S160, .i32⟩
  | 113 => ⟨S_, .i32⟩
  | 114 => ⟨S160, .i32⟩
  | 115 => ⟨S160, .i32⟩
  | 116 => ⟨S160, .i32⟩
  | 117 => ⟨S4x1024x160, .f32⟩
  | 118 => ⟨S_, .f32⟩
  | 119 => ⟨S4x1024x13, .f32⟩
  | 120 => ⟨S4x1024x13, .f32⟩
  | 121 => ⟨S_, .i32⟩
  | 122 => ⟨S160, .i32⟩
  | 123 => ⟨S160, .i1⟩
  | 124 => ⟨S_, .i32⟩
  | 125 => ⟨S160, .i32⟩
  | 126 => ⟨S160, .i32⟩
  | 127 => ⟨S160, .i32⟩
  | _ => ⟨S4x1024x18432, .bf16⟩

abbrev hbmTy0_1 (i : Nat) : BufTy := match i % 128 with
  | 0 => ⟨S160x1, .i32⟩
  | 1 => ⟨S4x1024x160, .f32⟩
  | 2 => ⟨S4x1024x160, .f32⟩
  | 3 => ⟨S4x1024x160, .bf16⟩
  | 4 => ⟨S4x1024x7168, .f32⟩
  | 5 => ⟨S4x1024x7168, .f32⟩
  | 6 => ⟨S4x1024x7168, .bf16⟩
  | 7 => ⟨S4x1024x18432, .fp8e4m3⟩
  | _ => ⟨S4x1024x18432, .bf16⟩

abbrev hbmTy (i : Nat) : BufTy := match i / 128 with
  | 0 => hbmTy0_0 i
  | 1 => hbmTy0_1 i
  | _ => ⟨S4x1024x18432, .bf16⟩

abbrev bufTy : (tb : Table) → Fin (tcTables nBuf tb) → BufTy
  | .hbm, ⟨i, _⟩ => hbmTy i
  | .local _ .vmem, ⟨0, _⟩ => ⟨S4096x18432, .bf16⟩
  | .local _ .vmem, ⟨1, _⟩ => ⟨S4096x1, .f32⟩
  | .local _ .vmem, ⟨2, _⟩ => ⟨S18432x7168, .fp8e4m3⟩
  | .local _ .vmem, ⟨3, _⟩ => ⟨S4096x18432, .fp8e4m3⟩
  | .local _ .vmem, ⟨4, _⟩ => ⟨S4096x7168, .f32⟩
  | _, _ => ⟨S4x1024x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_cst : Ref sig .tc := ⟨.hbm, 84, rfl⟩
abbrev main_call1_v14 : Ref sig .tc := ⟨.hbm, 85, rfl⟩
abbrev main_v44 : Ref sig .tc := ⟨.hbm, 86, rfl⟩
abbrev main_cst_9 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_10 : Ref sig .tc := ⟨.hbm, 101, rfl⟩
abbrev main_v53 : Ref sig .tc := ⟨.hbm, 102, rfl⟩
abbrev main_v54 : Ref sig .tc := ⟨.hbm, 103, rfl⟩
abbrev main_c : Ref sig .tc := ⟨.hbm, 104, rfl⟩
abbrev main_v55 : Ref sig .tc := ⟨.hbm, 105, rfl⟩
abbrev main_v56 : Ref sig .tc := ⟨.hbm, 106, rfl⟩
abbrev main_c_11 : Ref sig .tc := ⟨.hbm, 107, rfl⟩
abbrev main_v57 : Ref sig .tc := ⟨.hbm, 108, rfl⟩
abbrev main_v58 : Ref sig .tc := ⟨.hbm, 109, rfl⟩
abbrev main_c_12 : Ref sig .tc := ⟨.hbm, 110, rfl⟩
abbrev main_v59 : Ref sig .tc := ⟨.hbm, 111, rfl⟩
abbrev main_v60 : Ref sig .tc := ⟨.hbm, 112, rfl⟩
abbrev main_c_13 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_14 : Ref sig .tc := ⟨.hbm, 118, rfl⟩
abbrev main_v65 : Ref sig .tc := ⟨.hbm, 119, rfl⟩
abbrev main_v66 : Ref sig .tc := ⟨.hbm, 120, rfl⟩
abbrev main_c_15 : Ref sig .tc := ⟨.hbm, 121, rfl⟩
abbrev main_v67 : Ref sig .tc := ⟨.hbm, 122, rfl⟩
abbrev main_v68 : Ref sig .tc := ⟨.hbm, 123, rfl⟩
abbrev main_c_16 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x18432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x18432 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KRun.lean ====
/- The kernel's run: each result array ends at the contents the fold through the program computes, the arguments unchanged. -/
module

public import proofs.«01_k».proof.Proof.Gen.KernelIdeal.Frame

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_v11) = W7 m ρ c (Proc.devRef .tc main_v11)
      ∧ r.2.mem ((c.tc : Thread nD τ).loc main_v12) = W7 m ρ c (Proc.devRef .tc main_v12)
      ∧ r.2.mem ((c.tc : Thread nD τ).loc main_v15) = W7 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v10 (by decide)),
       h c _ (mem_uc main_v11 (by decide)),
       h c _ (mem_uc main_v12 (by decide)),
       h c _ (mem_uc main_v15 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KRun

end
-- ==== Proof.Quant.lean ====
/- The quantiser's scale of one token, as a number: the kernel's bisection for the exponent field and its shifts of the
   field into a float, against the reference's floor of a base-2 logarithm. -/
module

public import Idealize.ShloMosaic.Lib.ValueIdx
public import Idealize.ShloMosaic.PureOps.Ideal.Laws

@[expose] public section

noncomputable section

namespace Cert.Quant

open Idealize.ShloMosaic

/-- The float whose pattern has exponent field `n` and no other bit. -/
abbrev pat (n : BitVec 32) : EReal := Ideal.ofBits .f32 (IntOp.shli .vector n 23#32)

/-- One step of the kernel's bisection: add `b` to the field unless the value is below the float of the sum. -/
abbrev step (v : EReal) (n b : BitVec 32) : BitVec 32 :=
  Scalar.select (Ideal.cmp .olt v (pat (n + b))) n (n + b)

/-- The kernel's exponent field of `v`. -/
def field (v : EReal) : BitVec 32 :=
  step v (step v (step v (step v (step v (step v (step v (step v 0#32 128#32) 64#32) 32#32) 16#32) 8#32) 4#32) 2#32) 1#32

/-- The kernel's exponent of `v`. -/
def expo (v : EReal) : BitVec 32 :=
  Scalar.select (IntOp.cmpi .eq (field v) 0#32) 0#32 (field v - 126#32)

/-- The kernel's scale of a token whose greatest magnitude over 448 is `v`, and its inverse. -/
def kscale (v : EReal) : EReal := pat (expo v + 127#32)
def kinv (v : EReal) : EReal := pat (127#32 - expo v)

/-- The reference's exponent of a token with greatest magnitude `a`, `v` being `a` over 448. -/
def rexpo (a v : EReal) : EReal :=
  Scalar.select (Ideal.cmp .oeq a (Ideal.ofBits .f32 0x00000000#32)) (Ideal.ofBits .f32 0x00000000#32)
    (Ideal.liftRound (fun r => ⌊r⌋) (Ideal.div (Ideal.log v) (Ideal.log (Ideal.ofBits .f32 0x40000000#32)))
      + Ideal.ofBits .f32 0x3F800000#32)

/-- The reference's scale and its inverse. -/
def rscale (a v : EReal) : EReal := Ideal.pow (Ideal.ofBits .f32 0x40000000#32) (rexpo a v)
def rinv (a v : EReal) : EReal := Ideal.pow (Ideal.ofBits .f32 0x40000000#32) (-(rexpo a v))

theorem ofBits_zero : Ideal.ofBits .f32 0x00000000#32 = 0 := by simp [Ideal.ofBits, Ideal.ieee]

theorem ofBits_one : Ideal.ofBits .f32 0x3F800000#32 = ((1 : ℝ) : EReal) := by
  simp [Ideal.ofBits, Ideal.ieee]
  rw [← EReal.coe_mul]; norm_num

theorem ofBits_two : Ideal.ofBits .f32 0x40000000#32 = ((2 : ℝ) : EReal) := by
  simp [Ideal.ofBits, Ideal.ieee]
  rw [← EReal.coe_mul]; norm_num

theorem shift_facts : ∀ m : Fin 256,
    ((IntOp.shli .vector (BitVec.ofNat 32 m.val) 23#32).extractLsb' 23 8).toNat = m.val
    ∧ ((IntOp.shli .vector (BitVec.ofNat 32 m.val) 23#32).extractLsb' 0 23).toNat = 0
    ∧ ((IntOp.shli .vector (BitVec.ofNat 32 m.val) 23#32).extractLsb' 31 1) = 0#1 := by decide +kernel

/-- The float of field `m` is `2 ^ (m - 127)`. -/
theorem pat_eq (m : ℕ) (h1 : 1 ≤ m) (h2 : m ≤ 254) : pat (BitVec.ofNat 32 m) = (((2 : ℝ) ^ ((m : ℤ) - 127) : ℝ) : EReal) := by
  obtain ⟨a, b, c⟩ := shift_facts ⟨m, by omega⟩
  have u : pat (BitVec.ofNat 32 m) = Ideal.ieee 8 23 (IntOp.shli .vector (BitVec.ofNat 32 m) 23#32) := rfl
  rw [u]
  generalize IntOp.shli .vector (BitVec.ofNat 32 m) 23#32 = w at a b c
  unfold Ideal.ieee
  dsimp only at a b c ⊢
  have c' : BitVec.extractLsb' (8 + 23) 1 w = 0#1 := c
  rw [a, b, c', if_neg (by omega), if_neg (by omega)]
  congr 1
  have h : (2 : ℝ) ^ ((m : ℤ) - (2 ^ (8 - 1) - 1) - (23 : ℕ)) * 2 ^ (23 : ℕ) = (2 : ℝ) ^ ((m : ℤ) - 127) := by
    rw [← zpow_natCast, ← zpow_add₀ (by norm_num)]
    congr 1
    norm_num
  rw [← h]
  norm_num
  ring

theorem pat_255 : pat (BitVec.ofNat 32 255) = ⊤ := by
  have w : IntOp.shli .vector (BitVec.ofNat 32 255) 23#32 = 0x7F800000#32 := by decide
  show Ideal.ofBits .f32 (IntOp.shli .vector (BitVec.ofNat 32 255) 23#32) = ⊤
  rw [w]
  simp [Ideal.ofBits, Ideal.ieee]

/-- `v` lies in the binade of exponent field `f` (below every normal for field zero). -/
def InBinade (v : ℝ) (f : ℕ) : Prop :=
  (f = 0 ∨ (2 : ℝ) ^ ((f : ℤ) - 127) ≤ v) ∧ v < (2 : ℝ) ^ ((f : ℤ) - 126) ∧ f ≤ 252

theorem lt_pat_iff {v : ℝ} {f : ℕ} (h : InBinade v f) (m : ℕ) (h1 : 1 ≤ m) (h2 : m ≤ 255) :
    ((v : EReal) < pat (BitVec.ofNat 32 m)) ↔ f < m := by
  rcases Nat.lt_or_ge 254 m with hm | hm
  · obtain rfl : m = 255 := by omega
    rw [pat_255]
    exact ⟨fun _ => by have := h.2.2; omega, fun _ => EReal.coe_lt_top v⟩
  rw [pat_eq m h1 hm, EReal.coe_lt_coe_iff]
  constructor
  · intro hv
    rcases h.1 with rfl | hf
    · omega
    have := (zpow_lt_zpow_iff_right₀ (by norm_num : (1 : ℝ) < 2)).mp (lt_of_le_of_lt hf hv)
    omega
  · intro hf
    refine lt_of_lt_of_le h.2.1 (zpow_le_zpow_right₀ (by norm_num) ?_)
    omega

/-- The same step on natural numbers, the field being known. -/
def stepN (f n b : ℕ) : ℕ := if f < n + b then n else n + b

theorem stepN_le (f n b : ℕ) : stepN f n b ≤ n + b := by unfold stepN; split <;> omega

theorem step_eq {v : ℝ} {f : ℕ} (h : InBinade v f) (n b : ℕ) (h1 : 1 ≤ b) (h2 : n + b ≤ 255) :
    step v (BitVec.ofNat 32 n) (BitVec.ofNat 32 b) = BitVec.ofNat 32 (stepN f n b) := by
  have e : BitVec.ofNat 32 n + BitVec.ofNat 32 b = BitVec.ofNat 32 (n + b) := (BitVec.ofNat_add n b).symm
  have hi := lt_pat_iff h (n + b) (by omega) h2
  unfold step stepN
  rw [e]
  by_cases hf : f < n + b
  · have := hi.mpr hf
    simp [Ideal.cmp, this, hf, Scalar.select]
  · have := fun hh => hf (hi.mp hh)
    rw [if_neg hf]
    show (if BitVec.ofBool (decide ((v : EReal) < pat (BitVec.ofNat 32 (n + b)))) = 1 then _ else _) = _
    rw [decide_eq_false this]
    rfl

theorem bisect : ∀ f : Fin 256, stepN f.val (stepN f.val (stepN f.val (stepN f.val (stepN f.val (stepN f.val (stepN f.val
    (stepN f.val 0 128) 64) 32) 16) 8) 4) 2) 1 = f.val := by decide +kernel

theorem field_eq {v : ℝ} {f : ℕ} (h : InBinade v f) : field v = BitVec.ofNat 32 f := by
  have b := bisect ⟨f, by have := h.2.2; omega⟩
  dsimp only at b
  unfold field
  have l1 := stepN_le f 0 128
  have l2 := stepN_le f (stepN f 0 128) 64
  have l3 := stepN_le f (stepN f (stepN f 0 128) 64) 32
  have l4 := stepN_le f (stepN f (stepN f (stepN f 0 128) 64) 32) 16
  have l5 := stepN_le f (stepN f (stepN f (stepN f (stepN f 0 128) 64) 32) 16) 8
  have l6 := stepN_le f (stepN f (stepN f (stepN f (stepN f (stepN f 0 128) 64) 32) 16) 8) 4
  have l7 := stepN_le f (stepN f (stepN f (stepN f (stepN f (stepN f (stepN f 0 128) 64) 32) 16) 8) 4) 2
  rw [step_eq h 0 128 (by omega) (by omega), step_eq h _ 64 (by omega) (by omega), step_eq h _ 32 (by omega) (by omega),
    step_eq h _ 16 (by omega) (by omega), step_eq h _ 8 (by omega) (by omega), step_eq h _ 4 (by omega) (by omega),
    step_eq h _ 2 (by omega) (by omega), step_eq h _ 1 (by omega) (by omega), b]

theorem field_zero : field 0 = 0#32 := by
  have h : InBinade 0 0 := ⟨.inl rfl, by positivity, by omega⟩
  exact field_eq h

theorem expo_facts : ∀ f : Fin 253,
    Scalar.select (IntOp.cmpi .eq (BitVec.ofNat 32 f.val) 0#32) 0#32 (BitVec.ofNat 32 f.val - 126#32) + 127#32
      = BitVec.ofNat 32 (if f.val = 0 then 127 else f.val + 1)
    ∧ 127#32 - Scalar.select (IntOp.cmpi .eq (BitVec.ofNat 32 f.val) 0#32) 0#32 (BitVec.ofNat 32 f.val - 126#32)
      = BitVec.ofNat 32 (if f.val = 0 then 127 else 253 - f.val) := by decide +kernel

theorem pat_127 : pat (BitVec.ofNat 32 127) = 1 := by
  rw [pat_eq 127 (by omega) (by omega)]; norm_num

theorem kscale_zero : kscale 0 = 1 := by
  unfold kscale expo; rw [field_zero]; exact (congrArg pat (expo_facts 0).1).trans pat_127

theorem kinv_zero : kinv 0 = 1 := by
  unfold kinv expo; rw [field_zero]; exact (congrArg pat (expo_facts 0).2).trans pat_127

theorem pow_two (r : ℤ) : Ideal.pow (Ideal.ofBits .f32 0x40000000#32) (((r : ℝ) : ℝ) : EReal) = (((2 : ℝ) ^ r : ℝ) : EReal) := by
  rw [ofBits_two]
  show (((Real.rpow 2 (r : ℝ) : ℝ)) : EReal) = _
  rw [Real.rpow_eq_pow, Real.rpow_intCast]

/-- What the precondition says of a token. -/
def Tok (a v : EReal) : Prop :=
  (a = 0 ∧ v = 0) ∨ (a ≠ 0 ∧ (((2 : ℝ) ^ (-126 : ℤ) : ℝ) : EReal) ≤ v ∧ v < (((2 : ℝ) ^ (126 : ℤ) : ℝ) : EReal))

theorem rexpo_zero (v : EReal) : rexpo 0 v = 0 := by
  simp [rexpo, ofBits_zero, Ideal.cmp, Scalar.select]

theorem scales_ne {a : EReal} {v : ℝ} (ha : a ≠ 0) (h1 : (2 : ℝ) ^ (-126 : ℤ) ≤ v) (h2 : v < (2 : ℝ) ^ (126 : ℤ)) :
    kscale v = rscale a v ∧ kinv v = rinv a v := by
  have hv : 0 < v := lt_of_lt_of_le (by positivity) h1
  have h2pos : 0 < Real.log 2 := Real.log_pos (by norm_num)
  have hx : (2 : ℝ) ^ (Real.log v / Real.log 2) = v := by
    rw [Real.rpow_def_of_pos (by norm_num), mul_div_cancel₀ _ h2pos.ne', Real.exp_log hv]
  obtain ⟨L, hL⟩ : ∃ L : ℤ, ⌊Real.log v / Real.log 2⌋ = L := ⟨_, rfl⟩
  have hlo : (2 : ℝ) ^ L ≤ v := by
    rw [← hx, ← Real.rpow_intCast]
    exact Real.rpow_le_rpow_of_exponent_le (by norm_num) (by rw [← hL]; exact Int.floor_le _)
  have hhi : v < (2 : ℝ) ^ (L + 1) := by
    conv_lhs => rw [← hx]
    rw [← Real.rpow_intCast]
    exact Real.rpow_lt_rpow_of_exponent_lt (by norm_num) (by rw [← hL]; push_cast; exact Int.lt_floor_add_one _)
  have L1 : -126 ≤ L := by
    have := (zpow_lt_zpow_iff_right₀ (by norm_num : (1 : ℝ) < 2)).mp (lt_of_le_of_lt h1 hhi)
    omega
  have L2 : L < 126 := (zpow_lt_zpow_iff_right₀ (by norm_num : (1 : ℝ) < 2)).mp (lt_of_le_of_lt hlo h2)
  obtain ⟨f, hf⟩ : ∃ f : ℕ, (f : ℤ) = L + 127 := ⟨(L + 127).toNat, by omega⟩
  have hb : InBinade v f := ⟨.inr (by rw [hf]; simpa using hlo), by rw [hf]; convert hhi using 2; ring, by omega⟩
  have he : rexpo a v = (((L + 1 : ℤ) : ℝ) : EReal) := by
    have hlog : Ideal.log v = ((Real.log v : ℝ) : EReal) := by
      show (if v ≤ 0 then (⊥ : EReal) else (Real.log v : EReal)) = _
      rw [if_neg (not_le.mpr hv)]
    have hlog2 : Ideal.log (Ideal.ofBits .f32 0x40000000#32) = ((Real.log 2 : ℝ) : EReal) := by
      rw [ofBits_two]
      show (if (2 : ℝ) ≤ 0 then (⊥ : EReal) else (Real.log 2 : EReal)) = _
      rw [if_neg (by norm_num)]
    have hdiv : Ideal.div ((Real.log v : ℝ) : EReal) ((Real.log 2 : ℝ) : EReal) = ((Real.log v / Real.log 2 : ℝ) : EReal) := by
      unfold Ideal.div
      rw [if_neg (by exact_mod_cast h2pos.ne'), ← EReal.coe_inv, ← EReal.coe_mul]
      rfl
    unfold rexpo
    rw [hlog, hlog2, hdiv, ofBits_one, ofBits_zero]
    have hc : Ideal.cmp .oeq a 0 = 0#1 := by simp [Ideal.cmp, ha]
    rw [hc]
    show ((((⌊Real.log v / Real.log 2⌋ : ℤ) : ℝ) : ℝ) : EReal) + ((1 : ℝ) : EReal) = _
    rw [hL, ← EReal.coe_add]
    push_cast
    rfl
  have e := expo_facts ⟨f, by omega⟩
  dsimp only at e
  rw [if_neg (by omega), if_neg (by omega)] at e
  constructor
  · unfold kscale rscale expo
    rw [field_eq hb, e.1, pat_eq _ (by omega) (by omega), he, pow_two]
    congr 2; push_cast; omega
  · unfold kinv rinv expo
    rw [field_eq hb, e.2, pat_eq _ (by omega) (by omega), he,
      show -((((L + 1 : ℤ) : ℝ) : ℝ) : EReal) = (((-(L + 1) : ℤ) : ℝ) : EReal) by rw [← EReal.coe_neg]; push_cast; rfl, pow_two]
    congr 2
    rw [Nat.cast_sub (by omega)]
    push_cast; omega

/-- The kernel's scale and its inverse are the reference's. -/
theorem scales_eq {a v : EReal} (h : Tok a v) : kscale v = rscale a v ∧ kinv v = rinv a v := by
  rcases h with ⟨rfl, rfl⟩ | ⟨ha, h1, h2⟩
  · have z : Ideal.pow (Ideal.ofBits .f32 0x40000000#32) 0 = 1 := by
      have := pow_two 0
      simpa using this
    rw [kscale_zero, kinv_zero, rscale, rinv, rexpo_zero, neg_zero, z]
    exact ⟨rfl, rfl⟩
  · induction v using EReal.rec with
    | bot => exact absurd h1 (not_le.mpr (EReal.bot_lt_coe _))
    | top => exact absurd h2 (not_lt.mpr le_top)
    | coe v => exact scales_ne ha (EReal.coe_le_coe_iff.mp h1) (EReal.coe_lt_coe_iff.mp h2)

end Cert.Quant

end
-- ==== Proof.Spec.lean ====
/- What one token's results are, as functions of the token's row and of the whole weights, and the laws of sums and maxima
   over the kernel's 128 lanes of which 13 are experts. -/
module

public import proofs.«01_k».proof.Proof.Quant
public import Idealize.ShloMosaic.Lib.ValueLayout
public import Idealize.ShloMosaic.Lib.ValueLayoutCasts
public import Idealize.ShloMosaic.Lib.Pipeline.Value

@[expose] public section

noncomputable section

namespace Cert.Spec

open Idealize.ShloMosaic Idealize.ShloMosaic.ValueIdx

/-- The greatest magnitude of a row. -/
def amax (x : Fin 18432 → EReal) : EReal := Finset.univ.fold max ⊥ fun k => max (x k) (-(x k))

/-- The greatest magnitude over 448, as the programs write the division. -/
def vmax (x : Fin 18432 → EReal) : EReal := amax x * Ideal.ofBits .f32 0x3B124925#32

/-- A row's scale and its inverse. -/
def scale (x : Fin 18432 → EReal) : EReal := Quant.rscale (amax x) (vmax x)
def inv (x : Fin 18432 → EReal) : EReal := Quant.rinv (amax x) (vmax x)

/-- The code of one element, `s` being the inverse scale. -/
def clip (v s : EReal) : EReal :=
  min (Ideal.ofBits .f32 0x43E00000#32) (max (Ideal.ofBits .f32 0xC3E00000#32) (v * s))

/-- The router's logits. -/
def logit (x : Fin 18432 → EReal) (rw : Fin 18432 → Fin 13 → EReal) (rb : Fin 13 → EReal) (e : Fin 13) : EReal :=
  (∑ k, x k * rw k e) + rb e

/-- The softmax of 13 logits. -/
def top (l : Fin 13 → EReal) : EReal := Finset.univ.fold max ⊥ l
def soft (l : Fin 13 → EReal) (e : Fin 13) : EReal :=
  Ideal.div (Ideal.exp (l e - top l)) (∑ e', Ideal.exp (l e' - top l))

/-- The probability of the expert an index names. -/
def pick (p : Fin 13 → EReal) (i : BitVec 32) : EReal := ∑ e : Fin 13, if BitVec.ofNat 32 e.val = i then p e else 0

/-- The gate of a token's chosen expert: its probability over the sum of the two chosen. -/
def gate (p : Fin 13 → EReal) (i : Fin 2 → BitVec 32) (j : Fin 2) : EReal :=
  Ideal.div (pick p (i j)) (∑ j', pick p (i j'))

/-- The expert of a LoRA column. -/
def cexp (r : ℕ) : ℕ := r / 24 * 2 + r % 24 / 16

/-- The gate of a LoRA column's expert: zero when the token did not choose it. -/
def colgate (g : Fin 2 → EReal) (i : Fin 2 → BitVec 32) (r : ℕ) : EReal :=
  ∑ j : Fin 2, if BitVec.ofNat 32 (cexp r) = i j then g j else 0

/-- One element of the gated LoRA product. -/
def hb (x : Fin 18432 → EReal) (la : Fin 18432 → EReal) (g : Fin 2 → EReal) (i : Fin 2 → BitVec 32) (r : ℕ) : EReal :=
  (∑ k, x k * la k) * (colgate g i r * Ideal.ofBits .f32 0x40000000#32)

/-- One element of the result. -/
def out (code : Fin 18432 → EReal) (w : Fin 18432 → EReal) (s ws : EReal) (h lb : Fin 160 → EReal) : EReal :=
  (∑ k, code k * w k) * s * ws + ∑ r, h r * lb r

/-! ## Lanes -/

/-- The router's columns of the kernel's joined weights, its lanes, and the LoRA columns. -/
abbrev rcol (e : Fin 13) : Fin 256 := ⟨160 + e.val, by omega⟩
abbrev rlane (e : Fin 13) : Fin 128 := ⟨32 + e.val, by omega⟩
abbrev lcol (l : Fin 160) : Fin 256 := ⟨l.val, by omega⟩

/-- A sum over 128 lanes of a function that is zero off the 13 expert lanes. -/
theorem sum_lanes (f : Fin 128 → EReal) (g : Fin 13 → EReal) (h : ∀ e : Fin 13, f (rlane e) = g e)
    (h0 : ∀ l : Fin 128, ¬ (32 ≤ l.val ∧ l.val < 45) → f l = 0) : ∑ l, f l = ∑ e, g e := by
  symm
  refine Finset.sum_of_injOn (fun e : Fin 13 => (⟨32 + e.val, by omega⟩ : Fin 128)) ?_ ?_ ?_ ?_
  · intro a _ b _ hab
    have := congrArg Fin.val hab
    dsimp only at this
    exact Fin.ext (by omega)
  · intro a _; exact Finset.mem_coe.mpr (Finset.mem_univ _)
  · intro l _ hl
    refine h0 l fun hh => hl ⟨⟨l.val - 32, by omega⟩, Finset.mem_coe.mpr (Finset.mem_univ _), Fin.ext ?_⟩
    dsimp only; omega
  · intro e _; exact (h e).symm

/-- A maximum over 128 lanes of a function that is the least value off the 13 expert lanes. -/
theorem max_lanes (f : Fin 128 → EReal) (g : Fin 13 → EReal) (h : ∀ e : Fin 13, f (rlane e) = g e)
    (h0 : ∀ l : Fin 128, ¬ (32 ≤ l.val ∧ l.val < 45) → f l = ⊥) :
    (Finset.univ : Finset (Fin 128)).fold max ⊥ f = top g := by
  have e1 : (Finset.univ : Finset (Fin 128)).fold max ⊥ f = Finset.univ.sup f := rfl
  have e2 : top g = Finset.univ.sup g := rfl
  rw [e1, e2]
  apply le_antisymm
  · refine Finset.sup_le fun l _ => ?_
    by_cases hl : 32 ≤ l.val ∧ l.val < 45
    · have : f l = g ⟨l.val - 32, by omega⟩ := by
        rw [← h]; congr 1; apply Fin.ext; dsimp only; omega
      rw [this]; exact Finset.le_sup (f := g) (Finset.mem_univ _)
    · rw [h0 l hl]; exact bot_le
  · refine Finset.sup_le fun e _ => ?_
    rw [← h]; exact Finset.le_sup (f := f) (Finset.mem_univ _)

theorem ofBits_bot : Ideal.ofBits .f32 0xFF800000#32 = ⊥ := by simp [Ideal.ofBits, Ideal.ieee]
theorem ofBits_bot16 : Ideal.ofBits .bf16 0xFF80#16 = ⊥ := by simp [Ideal.ofBits, Ideal.ieee]

/-! ## A matrix product and a row reduction read at an index -/

section Mat
variable {M K N : ℕ} {φ₁ φ₂ : FTy}

theorem idx_mm (D : DotDims ⟨2, ![M, K]⟩ ⟨2, ![K, N]⟩ ⟨2, ![M, N]⟩) (wf)
    (hD : D = ⟨[1], [0], [0], [1], [], [], wf⟩) (hr : D.contr.rank = 1) (hs : D.contr.size ⟨0, by omega⟩ = K)
    (r : Fin M) (c : Fin N) (k : Fin K) :
    D.lhsIdx (ix2 r c) ((contrEquiv1 D K hr hs).symm k) = ix2 r k
    ∧ D.rhsIdx (ix2 r c) ((contrEquiv1 D K hr hs).symm k) = ix2 k c := by
  have hk := contrEquiv1_symm_val D K hr hs k
  subst hD
  constructor
  · funext a; apply Fin.ext
    match a with
    | ⟨0, _⟩ =>
      unfold DotDims.lhsIdx
      rw [dif_neg (List.not_mem_nil)]
      split
      · rfl
      · next h => exact absurd (List.mem_singleton.mpr rfl) h
    | ⟨1, _⟩ => exact (DotDims.lhsIdx_val_of_single _ rfl _ _).trans hk
  · funext a; apply Fin.ext
    match a with
    | ⟨0, _⟩ => exact (DotDims.rhsIdx_val_of_single _ rfl _ _).trans hk
    | ⟨1, _⟩ =>
      unfold DotDims.rhsIdx
      rw [dif_neg (List.not_mem_nil)]
      split
      · rfl
      · next h => exact absurd (List.mem_singleton.mpr rfl) h

/-- A matrix product into a zero splat, at row `r` and column `c`. -/
theorem matmul_ix (D : DotDims ⟨2, ![M, K]⟩ ⟨2, ![K, N]⟩ ⟨2, ![M, N]⟩) (wf)
    (hD : D = ⟨[1], [0], [0], [1], [], [], wf⟩) (hr : D.contr.rank = 1) (hs : D.contr.size ⟨0, by omega⟩ = K)
    (prec : Option ContractPrecision) (x : FVec Ideal ⟨2, ![M, K]⟩ φ₁) (w : FVec Ideal ⟨2, ![K, N]⟩ φ₂) (r : Fin M) (c : Fin N) :
    FloatOps.matmul D prec x w (constant ⟨2, ![M, N]⟩ .f32 0x00000000#32) (ix2 r c) = ∑ k : Fin K, x (ix2 r k) * w (ix2 k c) := by
  rw [Ideal.matmul_constant_zero_apply, ← Equiv.sum_comp (contrEquiv1 D K hr hs).symm]
  refine Finset.sum_congr rfl fun k _ => ?_
  obtain ⟨a, b⟩ := idx_mm D wf hD hr hs r c k
  rw [a, b]

theorem lift_row (h : Shape.Reduces ⟨2, ![M, K]⟩ [1] ⟨1, ![M]⟩) (r : Fin M) (k : Fin K) :
    h.lift (ix1 r) k = ix2 r k := by
  funext a; match a with
  | ⟨0, _⟩ => rfl
  | ⟨1, _⟩ => rfl

theorem rowSum_ix {φ : FTy} (x : FVec Ideal ⟨2, ![M, K]⟩ φ) (b : BitVec φ.bits) (h : Shape.Reduces ⟨2, ![M, K]⟩ [1] ⟨1, ![M]⟩)
    (hφ : FKind.Formats φ) (hacc : b = FKind.add.neutral φ hφ) (r : Fin M) :
    multiReduction .add [1] ⟨1, ![M]⟩ x b h hφ hacc (ix1 r) = ∑ k : Fin K, x (ix2 r k) := by
  rw [Ideal.multiReduction_add_single]
  exact Finset.sum_congr rfl fun k _ => congrArg x (lift_row h r k)

theorem rowMax_ix {φ : FTy} (x : FVec Ideal ⟨2, ![M, K]⟩ φ) (b : BitVec φ.bits) (h : Shape.Reduces ⟨2, ![M, K]⟩ [1] ⟨1, ![M]⟩)
    (hφ : FKind.Formats φ) (hacc : b = FKind.maximumf.neutral φ hφ) (r : Fin M) :
    multiReduction .maximumf [1] ⟨1, ![M]⟩ x b h hφ hacc (ix1 r)
      = (Finset.univ : Finset (Fin K)).fold max (Ideal.ofBits φ b) fun k => x (ix2 r k) := by
  rw [Ideal.multiReduction_maximumf_single]
  exact congrArg (fun f => Finset.fold max (Ideal.ofBits φ b) f (Finset.univ : Finset (Fin K)))
    (funext fun k => congrArg x (lift_row h r k))

/-- A column broadcast along the rows. -/
theorem bcol_ix {α : Type} (v : (⟨2, ![M, 1]⟩ : Shape).Idx → α) (h : Shape.Broadcasts ⟨2, ![M, 1]⟩ ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · omega
    · rfl
  | ⟨1, _⟩ => rfl

end Mat

end Cert.Spec

end
-- ==== Proof.KRead.lean ====
/- What the kernel's two bodies leave in their output blocks, element by element, as the specification's functions of the
   blocks read. -/
module

public import proofs.«01_k».proof.Proof.Spec
public import proofs.«01_k».proof.Proof.Gen.KernelIdeal.Frame

@[expose] public section

set_option maxRecDepth 16384

noncomputable section

namespace Cert.KRead

open Cert.KernelIdeal Cert.KernelIdeal.Gen Idealize.ShloMosaic Idealize.ShloMosaic.ValueIdx Cert.Spec

/-! ## The quantiser -/

theorem pay8 (x : Vec Ideal S256x18432 .bf16) : k0_pay8 x = x := shapeCast_self _ _

theorem pay9 (x : Vec Ideal S256x18432 .bf16) (r : Fin 256) (u : Fin 1) :
    k0_pay9 x (ix2 r u) = vmax fun k => x (ix2 r k) := by
  unfold k0_pay9
  rw [mulf_apply, extf_apply, shapeCast_a_a1_apply, pay8]
  refine congrArg (fun t : EReal => t * Ideal.ofBits .f32 0x3B124925#32) ((rowMax_ix _ _ _ _ _ r).trans ?_)
  rw [ofBits_bot16]
  unfold amax
  exact congrArg (fun f => Finset.fold max ⊥ f (Finset.univ : Finset (Fin 18432))) (funext fun k => Ideal.absf_def _)

/-- One step of the bisection, over a block's rows. -/
def vstep (v : FVec Ideal S256x1 .f32) (n : IVec S256x1 32) (b : BitVec 32) : IVec S256x1 32 :=
  select (cmpf .olt v (bitcastToFloat .f32 (shli (addi n (broadcast S256x1 b)) (broadcast S256x1 23#32)))) n
    (addi n (broadcast S256x1 b))

theorem vstep_ix (v : FVec Ideal S256x1 .f32) (n : IVec S256x1 32) (b : BitVec 32) (i : S256x1.Idx) :
    vstep v n b i = Quant.step (v i) (n i) b := rfl

theorem pay10 (x : Vec Ideal S256x18432 .bf16) : k0_pay10 x
    = vstep (k0_pay9 x) (vstep (k0_pay9 x) (vstep (k0_pay9 x) (vstep (k0_pay9 x) (vstep (k0_pay9 x) (broadcast S256x1 0#32) 128#32)
      64#32) 32#32) 16#32) 8#32 := rfl

theorem pay11 (v : FVec Ideal S256x1 .f32) (n : IVec S256x1 32) : k0_pay11 v n
    = select (cmpi .eq (vstep v (vstep v (vstep v n 4#32) 2#32) 1#32) (broadcast S256x1 0#32)) (broadcast S256x1 0#32)
      (subi (vstep v (vstep v (vstep v n 4#32) 2#32) 1#32) (broadcast S256x1 126#32)) := rfl

theorem expo_ix (x : Vec Ideal S256x18432 .bf16) (i : S256x1.Idx) :
    k0_pay11 (k0_pay9 x) (k0_pay10 x) i = Quant.expo (k0_pay9 x i) := by
  rw [pay11, pay10]
  unfold Quant.expo Quant.field
  generalize k0_pay9 x = v
  show Scalar.select (IntOp.cmpi .eq (vstep v _ 1#32 i) 0#32) 0#32 (vstep v _ 1#32 i - 126#32) = _
  rw [vstep_ix, vstep_ix, vstep_ix, vstep_ix, vstep_ix, vstep_ix, vstep_ix, vstep_ix]
  rfl

theorem pay12 (x : Vec Ideal S256x18432 .bf16) (r : Fin 256) (u : Fin 1) :
    k0_pay12 (k0_pay9 x) (k0_pay10 x) (ix2 r u) = Quant.kscale (vmax fun k => x (ix2 r k)) := by
  rw [← pay9 x r u]
  show Quant.pat (k0_pay11 (k0_pay9 x) (k0_pay10 x) (ix2 r u) + 127#32) = _
  rw [expo_ix, Quant.kscale]

theorem pay13 (x : Vec Ideal S256x18432 .bf16) (r : Fin 256) (k : Fin 18432) :
    k0_pay13 (k0_pay8 x) (k0_pay9 x) (k0_pay10 x) (ix2 r k)
      = clip (x (ix2 r k)) (Quant.kinv (vmax fun k => x (ix2 r k))) := by
  rw [← pay9 x r 0]
  unfold k0_pay13
  rw [truncf_apply, minimumf_apply, maximumf_apply, mulf_apply, bcol_ix, extf_apply, pay8, Quant.kinv, ← expo_ix]
  rfl

theorem pay14 (v : FVec Ideal S256x1 .f32) (r : Fin 256) (l : Fin 128) : k0_pay14 v (ix2 r l) = v (ix2 r 0) := by
  unfold k0_pay14
  rw [bcol_ix, shapeCast_self]

/-! ## The router -/

theorem pay15 (x : FVec Ideal S256x18432 .bf16) (a : Vec Ideal S18432x256 .bf16) (r : Fin 256) (c : Fin 256) :
    k0_pay15 x a (ix2 r c) = ∑ k : Fin 18432, x (ix2 r k) * a (ix2 k c) := by
  unfold k0_pay15
  simp only [matmul]
  rw [shapeCast_self]
  exact matmul_ix _ _ rfl rfl rfl _ _ _ r c

theorem pay16 (r : Fin 256) (l : Fin 128) : k0_pay16 (ix2 r l) = BitVec.ofNat 32 l.val - 32#32 := by
  unfold k0_pay16
  show IntOp.subi (iota .tc S256x128 32 [1] iota_S256x128_d1_w32 (ix2 r l)) 32#32 = _
  rw [iota_single_apply]
  rfl

theorem live_facts : ∀ l : Fin 128,
    IntOp.andi (IntOp.cmpi .sge (BitVec.ofNat 32 l.val - 32#32) 0#32) (IntOp.cmpi .slt (BitVec.ofNat 32 l.val - 32#32) 13#32)
      = if 32 ≤ l.val ∧ l.val < 45 then 1#1 else 0#1 := by decide +kernel

/-- The masked logits of a row over the lanes. -/
def lane (x : Fin 18432 → EReal) (a : Fin 18432 → Fin 256 → EReal) (rb : Fin 128 → EReal) (l : Fin 128) : EReal :=
  if 32 ≤ l.val ∧ l.val < 45 then (∑ k, x k * a k ⟨128 + l.val, by omega⟩) + rb l else ⊥

theorem pay17 (x : FVec Ideal S256x18432 .bf16) (a : Vec Ideal S18432x256 .bf16) (rb : Vec Ideal S1x128 .f32) (r : Fin 256) (l : Fin 128)
    (L : Fin 128 → EReal) (hL : L = lane (fun k => x (ix2 r k)) (fun k c => a (ix2 k c)) fun l => rb (ix2 0 l)) :
    k0_pay17 x a rb (ix2 r l) = Ideal.div (Ideal.exp (L l - Finset.univ.fold max ⊥ L))
      (∑ l', Ideal.exp (L l' - Finset.univ.fold max ⊥ L)) := by
  -- the masked logits
  obtain ⟨V, hV⟩ : ∃ V : FVec Ideal S256x128 .f32, V = select
      (andi (cmpi .sge k0_pay16 (broadcast S256x128 0#32)) (cmpi .slt k0_pay16 (broadcast S256x128 13#32)))
      (addf (extractStridedSlice S256x128 ![0, 128] (k0_pay15 x a) slices_S256x256_o0_128_S256x128)
        (broadcastTo S256x128 (shapeCast S1x128 rb shapeCasts_S1x128_S1x128) broadcasts_S1x128_S256x128))
      (broadcast S256x128 (Scalar.ofBits .f32 0xFF800000#32)) := ⟨_, rfl⟩
  have hVL : ∀ l, V (ix2 r l) = L l := fun l => by
    rw [hV, hL, select_apply, addf_apply, broadcastTo_1b_ab_apply, shapeCast_self,
      slice2_axis1_apply 128 (k0_pay15 x a) slices_S256x256_o0_128_S256x128 r l ⟨128 + l.val, by omega⟩ rfl, pay15]
    have hc : andi (cmpi .sge k0_pay16 (broadcast S256x128 0#32)) (cmpi .slt k0_pay16 (broadcast S256x128 13#32)) (ix2 r l)
        = if 32 ≤ l.val ∧ l.val < 45 then 1#1 else 0#1 := by
      rw [← live_facts l, ← pay16 r l]; rfl
    rw [hc]
    unfold lane
    split
    · rw [select_one]
    · rw [select_zero]; exact ofBits_bot
  have hM : ∀ l, broadcastTo S256x128 (shapeCast S256x1 (multiReduction .maximumf [1] S256 V 0xFF800000#32 reduces_S256x128_S256 (.inl rfl) rfl)
      shapeCasts_S256_S256x1) broadcasts_S256x1_S256x128 (ix2 r l) = Finset.univ.fold max ⊥ L := fun l => by
    rw [bcol_ix, shapeCast_a_a1_apply]
    refine (rowMax_ix _ _ _ _ _ r).trans ?_
    rw [ofBits_bot, funext hVL]
  have hE : ∀ l, exp (subf V (broadcastTo S256x128 (shapeCast S256x1 (multiReduction .maximumf [1] S256 V 0xFF800000#32 reduces_S256x128_S256 (.inl rfl) rfl)
      shapeCasts_S256_S256x1) broadcasts_S256x1_S256x128)) (ix2 r l) = Ideal.exp (L l - Finset.univ.fold max ⊥ L) := fun l => by
    rw [← hM l, ← hVL l]; rfl
  unfold k0_pay17
  dsimp only
  rw [← hV, divf_apply, bcol_ix, shapeCast_a_a1_apply]
  refine congrArg₂ Ideal.div (hE l) ?_
  exact (rowSum_ix _ _ _ _ _ r).trans (Finset.sum_congr rfl fun l' _ => hE l')

section Row
variable (x : Vec Ideal S256x18432 .bf16) (a : Vec Ideal S18432x256 .bf16) (rb : Vec Ideal S1x128 .f32) (idx : Vec Ideal S256x2 .i32)
variable (rw' : Fin 18432 → Fin 13 → EReal) (rb' : Fin 13 → EReal) (r : Fin 256)
variable (hrw : ∀ (k : Fin 18432) (e : Fin 13), a (ix2 k (rcol e)) = rw' k e)
variable (hrb : ∀ e : Fin 13, rb (ix2 0 (rlane e)) = rb' e)
variable (hidx : ∀ j : Fin 2, (idx (ix2 r j) : BitVec 32).toNat < 13)

/-- The row's expert probabilities. -/
abbrev prob : Fin 13 → EReal := soft (logit (fun k => x (ix2 r k)) rw' rb')

include hrw hrb in
theorem pay17_live (e : Fin 13) : k0_pay17 x a rb (ix2 r (rlane e)) = prob x rw' rb' r e := by
  rw [pay17 x a rb r _ _ rfl]
  obtain ⟨L, hL⟩ : ∃ L, L = lane (fun k => x (ix2 r k)) (fun k c => a (ix2 k c)) (fun l => rb (ix2 0 l)) := ⟨_, rfl⟩
  rw [← hL]
  have h1 : ∀ e : Fin 13, L (rlane e) = logit (fun k => x (ix2 r k)) rw' rb' e := fun e => by
    rw [hL]; unfold lane logit
    rw [if_pos ⟨by dsimp only; omega, by dsimp only; omega⟩]
    dsimp only
    rw [hrb]
    refine congrArg (· + rb' e) ?_
    refine Finset.sum_congr rfl fun k _ => ?_
    rw [← hrw]
    exact congrArg (fun c => x (ix2 r k) * a (ix2 k c)) (Fin.ext (by dsimp only; omega))
  have h0 : ∀ l : Fin 128, ¬ (32 ≤ l.val ∧ l.val < 45) → L l = ⊥ := fun l hl => by
    rw [hL]; unfold lane; rw [if_neg hl]
  rw [max_lanes L _ h1 h0, h1]
  unfold prob soft
  refine congrArg (Ideal.div _) ?_
  refine sum_lanes _ _ (fun e => by rw [h1]) fun l hl => ?_
  rw [h0 l hl, EReal.bot_sub]
  rfl

theorem sel_eq (u w : BitVec 32) (p : EReal) : Scalar.select (IntOp.cmpi .eq u w) p (0 : EReal) = if u = w then p else 0 := by
  by_cases h : u = w
  · simp [IntOp.cmpi, Scalar.select, h]
  · have : (u == w) = false := by simp [h]
    simp [IntOp.cmpi, Scalar.select, h, this]

theorem lane_eq_facts : ∀ (l : Fin 128) (n : Fin 13),
    (BitVec.ofNat 32 l.val - 32#32 = BitVec.ofNat 32 n.val) ↔ l.val = 32 + n.val := by decide +kernel

theorem lane_ix : ∀ e : Fin 13, BitVec.ofNat 32 (32 + e.val) - 32#32 = BitVec.ofNat 32 e.val := by decide +kernel

include hrw hrb in
/-- The probability of the expert an index word names, as a sum over the lanes. -/
theorem pick_lanes (w : BitVec 32) (hw : w.toNat < 13) :
    (∑ l : Fin 128, Scalar.select (IntOp.cmpi .eq (k0_pay16 (ix2 r l)) w) (k0_pay17 x a rb (ix2 r l)) (0 : EReal))
      = pick (prob x rw' rb' r) w := by
  refine sum_lanes _ (fun e => if BitVec.ofNat 32 e.val = w then prob x rw' rb' r e else 0) (fun e => ?_) fun l hl => ?_
  · rw [sel_eq, pay16, lane_ix, pay17_live x a rb rw' rb' r hrw hrb]
  · rw [sel_eq, pay16]
    have hw' : w = BitVec.ofNat 32 (⟨w.toNat, hw⟩ : Fin 13).val := by simp
    rw [if_neg]
    rw [hw', lane_eq_facts]
    dsimp only
    omega

include hrw hrb hidx in
theorem pay1_19 : k0_pay1 (k0_pay19 x a rb idx) (ix2 r 0) = pick (prob x rw' rb' r) (idx (ix2 r 0)) := by
  unfold k0_pay1 k0_pay19 k0_pay18
  dsimp only
  rw [shapeCast_a_a1_apply]
  refine (rowSum_ix _ _ _ _ _ r).trans ?_
  rw [← pick_lanes x a rb rw' rb' r hrw hrb _ (hidx 0)]
  refine Finset.sum_congr rfl fun l _ => ?_
  rw [select_apply, shapeCast_self]
  have : cmpi .eq k0_pay16 (broadcastTo S256x128 (extractStridedSlice S256x1 ![0, 0] idx slices_S256x2_o0_0_S256x1) broadcasts_S256x1_S256x128) (ix2 r l)
      = IntOp.cmpi .eq (k0_pay16 (ix2 r l)) (idx (ix2 r 0)) := by
    show IntOp.cmpi .eq (k0_pay16 (ix2 r l)) (broadcastTo S256x128 _ broadcasts_S256x1_S256x128 (ix2 r l)) = _
    rw [bcol_ix, slice2_axis1_apply 0 idx slices_S256x2_o0_0_S256x1 r 0 0 rfl]
  rw [this]
  congr 1
  exact Quant.ofBits_zero

include hrw hrb hidx in
theorem pay2 : k0_pay2 k0_pay16 (k0_pay17 x a rb) (k0_pay18 idx) (ix2 r 0) = pick (prob x rw' rb' r) (idx (ix2 r 1)) := by
  unfold k0_pay2 k0_pay18
  dsimp only
  rw [shapeCast_a_a1_apply]
  refine (rowSum_ix _ _ _ _ _ r).trans ?_
  rw [← pick_lanes x a rb rw' rb' r hrw hrb _ (hidx 1)]
  refine Finset.sum_congr rfl fun l _ => ?_
  rw [select_apply, shapeCast_self]
  have : cmpi .eq k0_pay16 (broadcastTo S256x128 (extractStridedSlice S256x1 ![0, 1] idx slices_S256x2_o0_1_S256x1) broadcasts_S256x1_S256x128) (ix2 r l)
      = IntOp.cmpi .eq (k0_pay16 (ix2 r l)) (idx (ix2 r 1)) := by
    show IntOp.cmpi .eq (k0_pay16 (ix2 r l)) (broadcastTo S256x128 _ broadcasts_S256x1_S256x128 (ix2 r l)) = _
    rw [bcol_ix, slice2_axis1_apply 1 idx slices_S256x2_o0_1_S256x1 r 0 1 rfl]
  rw [this]
  congr 1
  exact Quant.ofBits_zero

/-- The row's two gates. -/
abbrev gates : Fin 2 → EReal := gate (prob x rw' rb' r) fun j => idx (ix2 r j)

include hrw hrb hidx in
theorem pay4 : k0_pay4 k0_pay16 (k0_pay17 x a rb) (k0_pay18 idx) (k0_pay19 x a rb idx) (ix2 r 0) = gates x idx rw' rb' r 0 := by
  unfold k0_pay4 k0_pay3
  dsimp only
  rw [divf_apply, addf_apply, pay1_19 x a rb idx rw' rb' r hrw hrb hidx, pay2 x a rb idx rw' rb' r hrw hrb hidx]
  unfold gates gate
  rw [Fin.sum_univ_two]

include hrw hrb hidx in
theorem pay5 : k0_pay5 k0_pay16 (k0_pay17 x a rb) (k0_pay18 idx) (k0_pay19 x a rb idx) (ix2 r 0) = gates x idx rw' rb' r 1 := by
  unfold k0_pay5 k0_pay3
  dsimp only
  rw [divf_apply, addf_apply, pay1_19 x a rb idx rw' rb' r hrw hrb hidx, pay2 x a rb idx rw' rb' r hrw hrb hidx]
  unfold gates gate
  rw [Fin.sum_univ_two]

include hrw hrb hidx in
theorem pay6 (j : Fin 2) : k0_pay6 k0_pay16 (k0_pay17 x a rb) (k0_pay18 idx) (k0_pay19 x a rb idx) (ix2 r j) = gates x idx rw' rb' r j := by
  unfold k0_pay6
  match j with
  | ⟨0, _⟩ =>
    rw [concatenate_pair_apply_left (t := S256x2) (s₁ := S256x1) (s₂ := S256x1) 1 _ _ _ _ rfl (ix2 r 0) (fun b => by
      match b with
      | ⟨0, _⟩ => rfl
      | ⟨1, _⟩ => rfl)]
    exact pay4 x a rb idx rw' rb' r hrw hrb hidx
  | ⟨1, _⟩ =>
    rw [concatenate_pair_apply_right (t := S256x2) (s₁ := S256x1) (s₂ := S256x1) 1 _ _ _ _ rfl rfl (ix2 r 0) (fun b hb => by
      match b, hb with
      | ⟨0, _⟩, _ => rfl
      | ⟨1, _⟩, hb => exact absurd rfl hb) rfl]
    exact pay5 x a rb idx rw' rb' r hrw hrb hidx

include hrw hrb hidx in
theorem pay7 (ce : Vec Ideal S1x256 .i32) (c : Fin 256) (n : ℕ) (la : Fin 18432 → EReal) (hla : ∀ k, a (ix2 k c) = la k)
    (hce : ce (ix2 0 c) = BitVec.ofNat 32 (cexp n)) :
    k0_pay7 (k0_pay15 x a) k0_pay16 (k0_pay17 x a rb) (k0_pay18 idx) (k0_pay19 x a rb idx) ce (ix2 r c)
      = hb (fun k => x (ix2 r k)) la (gates x idx rw' rb' r) (fun j => idx (ix2 r j)) n := by
  have e0 : cmpi .eq (broadcastTo S256x256 ce broadcasts_S1x256_S256x256)
      (broadcastTo S256x256 (extractStridedSlice S256x1 ![0, 0] idx slices_S256x2_o0_0_S256x1) broadcasts_S256x1_S256x256) (ix2 r c)
      = IntOp.cmpi .eq (BitVec.ofNat 32 (cexp n)) (idx (ix2 r 0)) := by
    show IntOp.cmpi .eq (broadcastTo S256x256 ce broadcasts_S1x256_S256x256 (ix2 r c)) (broadcastTo S256x256 _ broadcasts_S256x1_S256x256 (ix2 r c)) = _
    rw [bcol_ix, slice2_axis1_apply 0 idx slices_S256x2_o0_0_S256x1 r 0 0 rfl, broadcastTo_1b_ab_apply, hce]
  have e1 : cmpi .eq (broadcastTo S256x256 ce broadcasts_S1x256_S256x256)
      (broadcastTo S256x256 (extractStridedSlice S256x1 ![0, 1] idx slices_S256x2_o0_1_S256x1) broadcasts_S256x1_S256x256) (ix2 r c)
      = IntOp.cmpi .eq (BitVec.ofNat 32 (cexp n)) (idx (ix2 r 1)) := by
    show IntOp.cmpi .eq (broadcastTo S256x256 ce broadcasts_S1x256_S256x256 (ix2 r c)) (broadcastTo S256x256 _ broadcasts_S256x1_S256x256 (ix2 r c)) = _
    rw [bcol_ix, slice2_axis1_apply 1 idx slices_S256x2_o0_1_S256x1 r 0 1 rfl, broadcastTo_1b_ab_apply, hce]
  unfold k0_pay7
  have e18 : k0_pay18 (F := Ideal) idx = idx := shapeCast_self _ _
  rw [truncf_apply, mulf_apply, mulf_apply, addf_apply, addf_apply, select_apply, select_apply, pay15]
  conv_lhs =>
    rw [bcol_ix, bcol_ix, shapeCast_self, shapeCast_self, pay4 x a rb idx rw' rb' r hrw hrb hidx, pay5 x a rb idx rw' rb' r hrw hrb hidx]
  rw [e18, e0, e1]
  show (∑ k, x (ix2 r k) * a (ix2 k c)) * ((Ideal.ofBits .f32 0x00000000#32
    + Scalar.select _ _ (Ideal.ofBits .f32 0x00000000#32) + Scalar.select _ _ (Ideal.ofBits .f32 0x00000000#32)) * Ideal.ofBits .f32 0x40000000#32) = _
  rw [Quant.ofBits_zero, sel_eq, sel_eq, zero_add]
  unfold hb colgate
  rw [Fin.sum_univ_two]
  have hs : (∑ k, x (ix2 r k) * a (ix2 k c)) = ∑ k, x (ix2 r k) * la k := Finset.sum_congr rfl fun k _ => by rw [hla]
  rw [hs]

end Row

/-! ## The result -/

theorem k1_pay1_ix (v0 : Vec Ideal S512x18432 .fp8e4m3) (v2 : Vec Ideal S18432x512 .fp8e4m3) (v4 : Vec Ideal S512x160 .bf16)
    (v6 : Vec Ideal S160x512 .bf16) (v8 : Vec Ideal S512x1 .f32) (v12 : Vec Ideal S1x512 .f32) (r : Fin 512) (c : Fin 512) :
    k1_pay1 v0 v2 v4 v6 v8 v12 (ix2 r c)
      = out (fun k => v0 (ix2 r k)) (fun k => v2 (ix2 k c)) (v8 (ix2 r 0)) (v12 (ix2 0 c)) (fun j => v4 (ix2 r j)) fun j => v6 (ix2 j c) := by
  unfold k1_pay1
  simp only [matmul]
  rw [truncf_apply, addf_apply, mulf_apply, mulf_apply, bcol_ix, broadcastTo_1b_ab_apply, shapeCast_self, shapeCast_self, shapeCast_self, shapeCast_self,
    matmul_ix dot_S512x18432_S18432x512_S512x512_1_0_0_1_n_n _ rfl rfl rfl,
    matmul_ix dot_S512x160_S160x512_S512x512_1_0_0_1_n_n _ rfl rfl rfl]
  rfl

end Cert.KRead

end
-- ==== Proof.KReg.lean ====
/- What the two pipelined calls leave in their result arrays, element by element, from the arrays they are entered with. -/
module

public import proofs.«01_k».proof.Proof.KRead
public import Idealize.ShloMosaic.Lib.Pipeline.ValueKit.Geometry
public import Idealize.ShloMosaic.Lib.Pipeline.ValueKit.Acc

@[expose] public section

set_option maxRecDepth 16384

noncomputable section

namespace Cert.KReg

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- Row `r` of block `t` of the token arrays. -/
def row0 (t : Fin cfg0.N) (r : Fin 256) : Fin 4096 := ⟨t.val * 256 + r.val, by
  have := t.isLt; have : cfg0.N = 16 := N_0; omega⟩

theorem in0_0 (t : Fin cfg0.N) (r : Fin 256) (k : Fin 18432) : iblk0 V c 0 t (ix2 r k) = V c main_v1 (ix2 (row0 t r) k) := by
  have e := (idx0 t).1
  blk_ext [iblk0, e, row0]

theorem in0_1 (t : Fin cfg0.N) (k : Fin 18432) (l : Fin 256) : iblk0 V c 1 t (ix2 k l) = V c main_v4 (ix2 k l) := by
  have e := (idx0 t).2.1
  blk_ext [iblk0, e]

theorem in0_2 (t : Fin cfg0.N) (l : Fin 128) : iblk0 V c 2 t (ix2 (0 : Fin 1) l) = V c main_v6 (ix2 (0 : Fin 1) l) := by
  have e := (idx0 t).2.2.1
  blk_ext [iblk0, e]

theorem in0_3 (t : Fin cfg0.N) (r : Fin 256) (j : Fin 2) : iblk0 V c 3 t (ix2 r j) = V c main_v2 (ix2 (row0 t r) j) := by
  have e := (idx0 t).2.2.2.1
  blk_ext [iblk0, e, row0]

theorem in0_4 (t : Fin cfg0.N) (l : Fin 256) : iblk0 V c 4 t (ix2 (0 : Fin 1) l) = V c main_v0 (ix2 (0 : Fin 1) l) := by
  have e := (idx0 t).2.2.2.2.1
  blk_ext [iblk0, e]

section Region0
variable (x : Fin 4096 → Fin 18432 → EReal) (hx : ∀ r k, V c main_v1 (ix2 r k) = x r k)

include hx in
theorem row_x (t : Fin cfg0.N) (r : Fin 256) : (fun k => iblk0 V c 0 t (ix2 r k)) = x (row0 t r) :=
  funext fun k => (in0_0 V c t r k).trans (hx _ _)

include hx in
theorem codes_arr : (dat0 V c).arrAt 5 cfg0.N = fun i => Spec.clip (x (i 0) (i 1)) (Quant.kinv (Spec.vmax (x (i 0)))) := by
  refine (dat0 V c).arrAt_eq_of_covers 5 _ (by decide +kernel) fun t hf y => ?_
  obtain ⟨r, k, rfl⟩ : ∃ (r : Fin 256) (k : Fin 18432), y = ix2 r k := ⟨y 0, y 1, eq_ix2 y⟩
  have e := (idx0 t).2.2.2.2.2.1
  blk_simp
  rw [after0_5]
  unfold_out out0_5
  frame_out
  have e0 : ((View.whole main_v7_0).slice (win0_5.rect t)).emb (ix2 r k) 0 = row0 t r := by apply Fin.ext; blk_simp [e, row0]; rfl
  have e1 : ((View.whole main_v7_0).slice (win0_5.rect t)).emb (ix2 r k) 1 = k := by apply Fin.ext; blk_simp [e]; rfl
  rw [e0, e1]
  refine (KRead.pay13 _ _ _).trans ?_
  rw [row_x V c x hx, in0_0 V c, hx]

include hx in
theorem xs_arr : (dat0 V c).arrAt 6 cfg0.N = fun i => Quant.kscale (Spec.vmax (x (i 0))) := by
  refine (dat0 V c).arrAt_eq_of_covers 6 _ (by decide +kernel) fun t hf y => ?_
  obtain ⟨r, k, rfl⟩ : ∃ (r : Fin 256) (k : Fin 128), y = ix2 r k := ⟨y 0, y 1, eq_ix2 y⟩
  have e := (idx0 t).2.2.2.2.2.2.1
  blk_simp
  rw [after0_6]
  unfold_out out0_6
  frame_out
  have e0 : ((View.whole main_v7_1).slice (win0_6.rect t)).emb (ix2 r k) 0 = row0 t r := by apply Fin.ext; blk_simp [e, row0]; rfl
  rw [e0]
  refine (KRead.pay14 _ _ _).trans ?_
  refine (KRead.pay12 _ _ _).trans ?_
  rw [row_x V c x hx]

variable (rw' : Fin 18432 → Fin 13 → EReal) (rb' : Fin 13 → EReal) (idx : Fin 4096 → Fin 2 → BitVec 32) (la : Fin 18432 → Fin 160 → EReal)
variable (hrw : ∀ (k : Fin 18432) (e : Fin 13), V c main_v4 (ix2 k (Spec.rcol e)) = rw' k e)
variable (hrb : ∀ e : Fin 13, V c main_v6 (ix2 (0 : Fin 1) (Spec.rlane e)) = rb' e)
variable (hidx : ∀ r j, V c main_v2 (ix2 r j) = idx r j) (hlt : ∀ r j, (idx r j).toNat < 13)
variable (hla : ∀ (k : Fin 18432) (l : Fin 160), V c main_v4 (ix2 k (Spec.lcol l)) = la k l)
variable (hce : ∀ l : Fin 160, V c main_v0 (ix2 (0 : Fin 1) (Spec.lcol l)) = BitVec.ofNat 32 (Spec.cexp l.val))

/-- A token's gates. -/
def tgate (r : Fin 4096) : Fin 2 → EReal := Spec.gate (Spec.soft (Spec.logit (x r) rw' rb')) (idx r)

include hx hidx in
theorem gates_row (t : Fin cfg0.N) (r : Fin 256) :
    KRead.gates (iblk0 V c 0 t) (iblk0 V c 3 t) rw' rb' r = tgate x rw' rb' idx (row0 t r) := by
  unfold KRead.gates KRead.prob tgate
  rw [row_x V c x hx, show (fun j => iblk0 V c 3 t (ix2 r j)) = idx (row0 t r) from
    funext fun j => (in0_3 V c t r j).trans (hidx _ _)]

include hx hrw hrb hidx hlt in
theorem gates_arr : (dat0 V c).arrAt 7 cfg0.N = fun i => tgate x rw' rb' idx (i 0) (i 1) := by
  refine (dat0 V c).arrAt_eq_of_covers 7 _ (by decide +kernel) fun t hf y => ?_
  obtain ⟨r, k, rfl⟩ : ∃ (r : Fin 256) (k : Fin 2), y = ix2 r k := ⟨y 0, y 1, eq_ix2 y⟩
  have e := (idx0 t).2.2.2.2.2.2.2.1
  blk_simp
  rw [after0_7]
  unfold_out out0_7
  frame_out
  have e0 : ((View.whole main_v7_2).slice (win0_7.rect t)).emb (ix2 r k) 0 = row0 t r := by apply Fin.ext; blk_simp [e, row0]; rfl
  have e1 : ((View.whole main_v7_2).slice (win0_7.rect t)).emb (ix2 r k) 1 = k := by apply Fin.ext; blk_simp [e]; rfl
  rw [e0, e1]
  rw [KRead.pay8]
  refine (KRead.pay6 _ _ _ _ rw' rb' _ (fun k e => (in0_1 V c t _ _).trans (hrw k e)) (fun e => (in0_2 V c t _).trans (hrb e))
    (fun j => by rw [in0_3 V c, hidx]; exact hlt _ _) _).trans ?_
  rw [gates_row V c x hx rw' rb' idx hidx]

include hx hrw hrb hidx hlt hla hce in
theorem hb_arr (r : Fin 4096) (l : Fin 160) : (dat0 V c).arrAt 8 cfg0.N (ix2 r (Spec.lcol l))
    = Spec.hb (x r) (fun k => la k l) (tgate x rw' rb' idx r) (idx r) l.val := by
  have key := (dat0 V c).arrAt_forall_of_covers 8 (fun i v => ∀ (r : Fin 4096) (l : Fin 160), i = ix2 r (Spec.lcol l) →
    v = Spec.hb (x r) (fun k => la k l) (tgate x rw' rb' idx r) (idx r) l.val) (by decide +kernel) (fun t hf y => ?_)
    (ix2 r (Spec.lcol l))
  · exact key r l rfl
  have e := (idx0 t).2.2.2.2.2.2.2.2
  obtain ⟨r', k, rfl⟩ : ∃ (r : Fin 256) (k : Fin 256), y = ix2 r k := ⟨y 0, y 1, eq_ix2 y⟩
  intro r l hi
  blk_simp
  rw [after0_8]
  unfold_out out0_8
  frame_out
  have e0 : row0 t r' = r := by
    have := congrArg Fin.val (congrFun hi 0)
    blk_simp [e] at this
    exact Fin.ext this
  have e1 : k = (Spec.lcol l) := by
    have := congrArg Fin.val (congrFun hi 1)
    blk_simp [e] at this
    exact Fin.ext this
  rw [KRead.pay8, e1]
  refine (KRead.pay7 _ _ _ _ rw' rb' _ (fun k e => (in0_1 V c t _ _).trans (hrw k e)) (fun e => (in0_2 V c t _).trans (hrb e))
    (fun j => by rw [in0_3 V c, hidx]; exact hlt _ _) _ _ l.val (fun k => la k l) (fun k => (in0_1 V c t _ _).trans (hla k l))
    ((in0_4 V c t _).trans (hce l))).trans ?_
  rw [gates_row V c x hx rw' rb' idx hidx, row_x V c x hx, e0, show (fun j => iblk0 V c 3 t (ix2 r' j)) = idx r from
    funext fun j => (in0_3 V c t _ j).trans (by rw [hidx, e0])]

end Region0

/-! ## The second call -/

theorem idx1 : ∀ t : Fin cfg1.N, win1_0.index t = ![t.val / 14, 0] ∧ win1_1.index t = ![0, t.val % 14] ∧ win1_2.index t = ![t.val / 14, 0]
    ∧ win1_3.index t = ![0, t.val % 14] ∧ win1_4.index t = ![t.val / 14, 0] ∧ win1_5.index t = ![0, t.val % 14]
    ∧ win1_6.index t = ![t.val / 14, t.val % 14] :=
  (by decide +kernel : ∀ t : Fin grid1.N, _)

def row1 (t : Fin cfg1.N) (r : Fin 512) : Fin 4096 := ⟨t.val / 14 * 512 + r.val, by
  have := t.isLt; have : cfg1.N = 112 := N_1; omega⟩
def col1 (t : Fin cfg1.N) (r : Fin 512) : Fin 7168 := ⟨t.val % 14 * 512 + r.val, by omega⟩

theorem in1_0 (t : Fin cfg1.N) (r : Fin 512) (k : Fin 18432) : iblk1 V c 0 t (ix2 r k) = V c main_v7_0 (ix2 (row1 t r) k) := by
  have e := (idx1 t).1
  blk_ext [iblk1, e, row1]

theorem in1_1 (t : Fin cfg1.N) (k : Fin 18432) (l : Fin 512) : iblk1 V c 1 t (ix2 k l) = V c main_arg1 (ix2 k (col1 t l)) := by
  have e := (idx1 t).2.1
  blk_ext [iblk1, e, col1]

theorem in1_2 (t : Fin cfg1.N) (r : Fin 512) (l : Fin 128) : iblk1 V c 2 t (ix2 r l) = V c main_v7_1 (ix2 (row1 t r) l) := by
  have e := (idx1 t).2.2.1
  blk_ext [iblk1, e, row1]

theorem in1_3 (t : Fin cfg1.N) (l : Fin 512) : iblk1 V c 3 t (ix2 (0 : Fin 1) l) = V c main_v8 (ix2 (0 : Fin 1) (col1 t l)) := by
  have e := (idx1 t).2.2.2.1
  blk_ext [iblk1, e, col1]

theorem in1_4 (t : Fin cfg1.N) (r : Fin 512) (l : Fin 256) : iblk1 V c 4 t (ix2 r l) = V c main_v7_3 (ix2 (row1 t r) l) := by
  have e := (idx1 t).2.2.2.2.1
  blk_ext [iblk1, e, row1]

theorem in1_5 (t : Fin cfg1.N) (j : Fin 160) (l : Fin 512) : iblk1 V c 5 t (ix2 j l) = V c main_arg7 (ix2 j (col1 t l)) := by
  have e := (idx1 t).2.2.2.2.2.1
  blk_ext [iblk1, e, col1]

theorem ld_xs (X : Vec Ideal S512x128 .f32) (r : Fin 512) : View.ld X r1_4 (ix2 r (0 : Fin 1)) = X (ix2 r (0 : Fin 128)) := by
  refine congrArg X (funext fun a => Fin.ext ?_)
  match a with
  | ⟨0, _⟩ => show 0 + 1 * r.val = r.val; omega
  | ⟨1, _⟩ => rfl

theorem ld_hb (X : Vec Ideal S512x256 .bf16) (r : Fin 512) (l : Fin 160) : View.ld X r1_2 (ix2 r l) = X (ix2 r (Spec.lcol l)) := by
  refine congrArg X (funext fun a => Fin.ext ?_)
  match a with
  | ⟨0, _⟩ => show 0 + 1 * r.val = r.val; omega
  | ⟨1, _⟩ => show 0 + 1 * l.val = l.val; omega

theorem out_arr : (dat1 V c).arrAt 6 cfg1.N = fun i => Spec.out (fun k => V c main_v7_0 (ix2 (i 0) k)) (fun k => V c main_arg1 (ix2 k (i 1)))
    (V c main_v7_1 (ix2 (i 0) (0 : Fin 128))) (V c main_v8 (ix2 (0 : Fin 1) (i 1)))
    (fun j : Fin 160 => V c main_v7_3 (ix2 (i 0) (Spec.lcol j))) fun j => V c main_arg7 (ix2 j (i 1)) := by
  refine (dat1 V c).arrAt_eq_of_covers 6 _ (by decide +kernel) fun t hf y => ?_
  obtain ⟨r, k, rfl⟩ : ∃ (r : Fin 512) (k : Fin 512), y = ix2 r k := ⟨y 0, y 1, eq_ix2 y⟩
  have e := (idx1 t).2.2.2.2.2.2
  blk_simp
  rw [after1_6]
  unfold out1_6
  frame_out
  have e0 : ((View.whole main_v9).slice (win1_6.rect t)).emb (ix2 r k) 0 = row1 t r := by apply Fin.ext; blk_simp [e, row1]; rfl
  have e1 : ((View.whole main_v9).slice (win1_6.rect t)).emb (ix2 r k) 1 = col1 t k := by apply Fin.ext; blk_simp [e, col1]; rfl
  rw [e0, e1]
  refine (KRead.k1_pay1_ix _ _ _ _ _ _ _ _).trans ?_
  rw [ld_xs, in1_2 V c, in1_3 V c, show (fun k => iblk1 V c 0 t (ix2 r k)) = fun k => V c main_v7_0 (ix2 (row1 t r) k) from funext fun k => in1_0 V c t r k,
    show (fun j => iblk1 V c 1 t (ix2 j k)) = fun j => V c main_arg1 (ix2 j (col1 t k)) from funext fun j => in1_1 V c t j k,
    show (fun j : Fin 160 => View.ld (iblk1 V c 4 t) r1_2 (ix2 r j)) = fun j => V c main_v7_3 (ix2 (row1 t r) (Spec.lcol j)) from
      funext fun j => (ld_hb _ r j).trans (in1_4 V c t r _),
    show (fun j : Fin 160 => iblk1 V c 5 t (ix2 j k)) = fun j => V c main_arg7 (ix2 j (col1 t k)) from funext fun j => in1_5 V c t j k]

end Cert.KReg

end
-- ==== Proof.Final.lean ====
/- The four results, as functions of the eight argument arrays. -/
module

public import proofs.«01_k».proof.Proof.Spec

@[expose] public section

noncomputable section

namespace Cert.Final

open Idealize.ShloMosaic Idealize.ShloMosaic.ValueIdx

abbrev T0 : Shape := ⟨3, ![4, 1024, 18432]⟩
abbrev T1 : Shape := ⟨2, ![18432, 7168]⟩
abbrev T2 : Shape := ⟨1, ![7168]⟩
abbrev T3 : Shape := ⟨2, ![18432, 13]⟩
abbrev T4 : Shape := ⟨1, ![13]⟩
abbrev T5 : Shape := ⟨3, ![4, 1024, 2]⟩
abbrev T6 : Shape := ⟨2, ![18432, 160]⟩
abbrev T7 : Shape := ⟨2, ![160, 7168]⟩

/-- The batch and the position of row `r` of the 4096 flattened tokens, and the row of a token. -/
def tb (r : Fin 4096) : Fin 4 := ⟨r.val / 1024, by omega⟩
def ts (r : Fin 4096) : Fin 1024 := ⟨r.val % 1024, by omega⟩
def trow (b : Fin 4) (s : Fin 1024) : Fin 4096 := ⟨b.val * 1024 + s.val, by omega⟩

theorem tb_trow (b : Fin 4) (s : Fin 1024) : tb (trow b s) = b := by
  apply Fin.ext; show (b.val * 1024 + s.val) / 1024 = b.val; omega
theorem ts_trow (b : Fin 4) (s : Fin 1024) : ts (trow b s) = s := by
  apply Fin.ext; show (b.val * 1024 + s.val) % 1024 = s.val; omega

variable (a0 : T0.Idx → EReal) (a1 : T1.Idx → EReal) (a2 : T2.Idx → EReal) (a3 : T3.Idx → EReal) (a4 : T4.Idx → EReal)
  (a5 : T5.Idx → BitVec 32) (a6 : T6.Idx → EReal) (a7 : T7.Idx → EReal)

/-- A token's row, its two expert indices, its routing probabilities and its two gates. -/
def xrow (b : Fin 4) (s : Fin 1024) (k : Fin 18432) : EReal := a0 (ix3 b s k)
def irow (b : Fin 4) (s : Fin 1024) (j : Fin 2) : BitVec 32 := a5 (ix3 b s j)
def fprob (b : Fin 4) (s : Fin 1024) : Fin 13 → EReal :=
  Spec.soft (Spec.logit (xrow a0 b s) (fun k e => a3 (ix2 k e)) fun e => a4 (ix1 e))
def fgate (b : Fin 4) (s : Fin 1024) : Fin 2 → EReal := Spec.gate (fprob a0 a3 a4 b s) (irow a5 b s)

/-- A token's codes, and its gated LoRA activations. -/
def fcode (b : Fin 4) (s : Fin 1024) (k : Fin 18432) : EReal := Spec.clip (xrow a0 b s k) (Spec.inv (xrow a0 b s))
def fhb (b : Fin 4) (s : Fin 1024) (r : Fin 160) : EReal :=
  Spec.hb (xrow a0 b s) (fun k => a6 (ix2 k r)) (fgate a0 a3 a4 a5 b s) (irow a5 b s) r.val
/-- One element of the layer's result. -/
def fout (b : Fin 4) (s : Fin 1024) (n : Fin 7168) : EReal :=
  Spec.out (fcode a0 b s) (fun k => a1 (ix2 k n)) (Spec.scale (xrow a0 b s)) (a2 (ix1 n)) (fhb a0 a3 a4 a5 a6 b s)
    fun r => a7 (ix2 r n)

/-- The four results as arrays. -/
def aout (i : (⟨3, ![4, 1024, 7168]⟩ : Shape).Idx) : EReal := fout a0 a1 a2 a3 a4 a5 a6 a7 (i 0) (i 1) (i 2)
def agate (i : (⟨3, ![4, 1024, 2]⟩ : Shape).Idx) : EReal := fgate a0 a3 a4 a5 (i 0) (i 1) (i 2)
def acode (i : (⟨3, ![4, 1024, 18432]⟩ : Shape).Idx) : EReal := fcode a0 (i 0) (i 1) (i 2)
def ascale (i : (⟨2, ![4, 1024]⟩ : Shape).Idx) : EReal := Spec.scale (xrow a0 (i 0) (i 1))

/-- What the arguments are assumed to be: every token's greatest magnitude zero or of a scale that a normal float holds,
    every index an expert's. -/
def Ok : Prop := (∀ b s, Quant.Tok (Spec.amax (xrow a0 b s)) (Spec.vmax (xrow a0 b s))) ∧ ∀ b s j, (irow a5 b s j).toNat < 13

end Cert.Final

end
-- ==== Proof.KHost.lean ====
/- The kernel's results from its arguments: what its host operations lay out before the calls, and what they return after. -/
module

public import proofs.«01_k».proof.Proof.KReg
public import proofs.«01_k».proof.Proof.Final
public import Idealize.ShloMosaic.Lib.KernelVsHost

@[expose] public section

set_option maxRecDepth 16384

noncomputable section

namespace Cert.KHost

open Cert.KernelIdeal Cert.KernelIdeal.Gen Idealize.ShloMosaic Idealize.ShloMosaic.TcCoe Idealize.ShloMosaic.ValueIdx
open Cert.Final

variable (m : (ℓ : Loc nD τ sig) → Buf (Elt Ideal) ℓ) (ρ : Dev nD → PrngReg) (c : Dev nD)

/-! ## Before the first call -/

theorem w1_v0 : W1 m ρ c (Proc.devRef .tc main_v0) = broadcastInDim S1x256 ![1] bcast_S256_S1x256_1 (fun i => lit0 (S256.rowMajor i)) := by
  after_results <;> rfl

theorem w1_v1 : W1 m ρ c (Proc.devRef .tc main_v1)
    = shapeCast (s := S4x1024x18432) S4096x18432 (m ((c : Thread nD τ).loc main_arg0)) shapeCasts_S4x1024x18432_S4096x18432 := by
  after_results <;> rfl

theorem w1_v2 : W1 m ρ c (Proc.devRef .tc main_v2)
    = shapeCast (s := S4x1024x2) S4096x2 (m ((c : Thread nD τ).loc main_arg5)) shapeCasts_S4x1024x2_S4096x2 := by
  after_results <;> rfl

theorem w1_v4 : W1 m ρ c (Proc.devRef .tc main_v4)
    = concatenate S18432x256 1 [⟨S18432x160, (m ((c : Thread nD τ).loc main_arg6) : FVec Ideal S18432x160 .bf16)⟩,
        ⟨S18432x13, (m ((c : Thread nD τ).loc main_arg3) : FVec Ideal S18432x13 .bf16)⟩,
        ⟨S18432x83, (broadcastInDim S18432x83 ![] bcast_S_S18432x83 (constant (F := Ideal) S_ .bf16 0x0000#16) : FVec Ideal S18432x83 .bf16)⟩]
        concatenates_S18432x160_S18432x13_S18432x83_S18432x256_d1 := by
  after_results <;> rfl

theorem w3_v6 : W3 m ρ c (Proc.devRef .tc main_v6)
    = broadcastInDim S1x128 ![1] bcast_S128_S1x128_1 (pad (s := S13) (α := EReal) S128 ![32] ![83] ![0] (m ((c : Thread nD τ).loc main_arg4))
        (sitofp (F := Ideal) .f32 (constantI S_ 32 0#32)) pads_S13_S128_32830 h_S_) := by
  after_results <;> rfl

theorem hx (r : Fin 4096) (k : Fin 18432) :
    V3 m ρ c main_v1 (ix2 r k) = xrow (m ((c : Thread nD τ).loc main_arg0)) (tb r) (ts r) k := by
  have e : V3 m ρ c main_v1 = _ := (W3_of m ρ c main_v1 (by decide)).trans ((W2_of m ρ c main_v1 (by decide)).trans (w1_v1 m ρ c))
  rw [e]
  refine shapeCast_apply _ _ _ _ ?_
  rw [Shape.rowMajor_val_three, Shape.rowMajor_val_two]
  show (r.val / 1024 * 1024 + r.val % 1024) * 18432 + k.val = r.val * 18432 + k.val
  rw [Nat.div_add_mod']

theorem hidx (r : Fin 4096) (j : Fin 2) :
    V3 m ρ c main_v2 (ix2 r j) = irow (m ((c : Thread nD τ).loc main_arg5)) (tb r) (ts r) j := by
  have e : V3 m ρ c main_v2 = _ := (W3_of m ρ c main_v2 (by decide)).trans ((W2_of m ρ c main_v2 (by decide)).trans (w1_v2 m ρ c))
  rw [e]
  refine shapeCast_apply _ _ _ _ ?_
  rw [Shape.rowMajor_val_three, Shape.rowMajor_val_two]
  show (r.val / 1024 * 1024 + r.val % 1024) * 2 + j.val = r.val * 2 + j.val
  rw [Nat.div_add_mod']

theorem hla (k : Fin 18432) (l : Fin 160) :
    V3 m ρ c main_v4 (ix2 k (Spec.lcol l)) = m ((c : Thread nD τ).loc main_arg6) (ix2 k l) := by
  have e : V3 m ρ c main_v4 = _ := (W3_of m ρ c main_v4 (by decide)).trans ((W2_of m ρ c main_v4 (by decide)).trans (w1_v4 m ρ c))
  rw [e]
  refine concatenate_apply_piece (t := S18432x256) 1 _ _ _ 0 (by exact Nat.zero_lt_succ _) S18432x160 _ (by rfl) rfl 0 (by rfl) (ix2 k l) (fun b hb => ?_) ?_
  · match b with
    | ⟨0, _⟩ => rfl
    | ⟨1, _⟩ => exact absurd rfl hb
  · show 0 + l.val = l.val
    omega

theorem hrw (k : Fin 18432) (e : Fin 13) :
    V3 m ρ c main_v4 (ix2 k (Spec.rcol e)) = m ((c : Thread nD τ).loc main_arg3) (ix2 k e) := by
  have h : V3 m ρ c main_v4 = _ := (W3_of m ρ c main_v4 (by decide)).trans ((W2_of m ρ c main_v4 (by decide)).trans (w1_v4 m ρ c))
  rw [h]
  refine concatenate_apply_piece (t := S18432x256) 1 _ _ _ 1 (by exact Nat.succ_lt_succ (Nat.zero_lt_succ _)) S18432x13 _ (by rfl) rfl 160 (by rfl) (ix2 k e) (fun b hb => ?_) ?_
  · match b with
    | ⟨0, _⟩ => rfl
    | ⟨1, _⟩ => exact absurd rfl hb
  · rfl

theorem hrb (e : Fin 13) : V3 m ρ c main_v6 (ix2 (0 : Fin 1) (Spec.rlane e)) = m ((c : Thread nD τ).loc main_arg4) (ix1 e) := by
  have h : V3 m ρ c main_v6 = _ := w3_v6 m ρ c
  rw [h]
  refine (broadcastInDim_apply _ _ _ _ (ix1 (Spec.rlane e)) fun a => ?_).trans ?_
  · match a with
    | ⟨0, _⟩ => rfl
  · refine pad_apply_of_inside _ _ _ _ _ _ _ _ (ix1 e) fun a => ?_
    match a with
    | ⟨0, _⟩ => show 32 + e.val = 32 + e.val * (0 + 1); omega

theorem lit_cexp : ∀ l : Fin 160, lit0 (Spec.lcol l) = BitVec.ofNat 32 (Spec.cexp l.val) := by decide +kernel

theorem hce (l : Fin 160) : V3 m ρ c main_v0 (ix2 (0 : Fin 1) (Spec.lcol l)) = BitVec.ofNat 32 (Spec.cexp l.val) := by
  have h : V3 m ρ c main_v0 = _ := (W3_of m ρ c main_v0 (by decide)).trans ((W2_of m ρ c main_v0 (by decide)).trans (w1_v0 m ρ c))
  rw [h]
  refine (broadcastInDim_apply _ _ _ _ (ix1 (Spec.lcol l)) fun a => ?_).trans ?_
  · match a with
    | ⟨0, _⟩ => rfl
  · refine Eq.trans ?_ (lit_cexp l)
    show lit0 (S256.rowMajor (ix1 (Spec.lcol l))) = _
    congr 1
    apply Fin.ext
    exact Shape.rowMajor_val_one _

/-! ## The results -/

abbrev A0 : T0.Idx → EReal := m ((c : Thread nD τ).loc main_arg0)
abbrev A1 : T1.Idx → EReal := m ((c : Thread nD τ).loc main_arg1)
abbrev A2 : T2.Idx → EReal := m ((c : Thread nD τ).loc main_arg2)
abbrev A3 : T3.Idx → EReal := m ((c : Thread nD τ).loc main_arg3)
abbrev A4 : T4.Idx → EReal := m ((c : Thread nD τ).loc main_arg4)
abbrev A5 : T5.Idx → BitVec 32 := m ((c : Thread nD τ).loc main_arg5)
abbrev A6 : T6.Idx → EReal := m ((c : Thread nD τ).loc main_arg6)
abbrev A7 : T7.Idx → EReal := m ((c : Thread nD τ).loc main_arg7)

variable (hok : Ok (A0 m c) (A5 m c))

theorem w4_codes (r : Fin 4096) (k : Fin 18432) : W4 m ρ c (Proc.devRef .tc main_v7_0) (ix2 r k)
    = Spec.clip (xrow (A0 m c) (tb r) (ts r) k) (Quant.kinv (Spec.vmax (xrow (A0 m c) (tb r) (ts r)))) := by
  have h : W4 m ρ c (Proc.devRef .tc main_v7_0) = _ :=
    (W4_arr m ρ c 5).trans (KReg.codes_arr (V3 m ρ) c _ (hx m ρ c))
  rw [h]
  rfl

theorem w4_xs (r : Fin 4096) (l : Fin 128) : W4 m ρ c (Proc.devRef .tc main_v7_1) (ix2 r l)
    = Quant.kscale (Spec.vmax (xrow (A0 m c) (tb r) (ts r))) := by
  have h : W4 m ρ c (Proc.devRef .tc main_v7_1) = _ :=
    (W4_arr m ρ c 6).trans (KReg.xs_arr (V3 m ρ) c _ (hx m ρ c))
  rw [h]
  rfl

include hok in
theorem w4_gates (r : Fin 4096) (j : Fin 2) : W4 m ρ c (Proc.devRef .tc main_v7_2) (ix2 r j)
    = fgate (A0 m c) (A3 m c) (A4 m c) (A5 m c) (tb r) (ts r) j := by
  have h : W4 m ρ c (Proc.devRef .tc main_v7_2) = _ :=
    (W4_arr m ρ c 7).trans (KReg.gates_arr (V3 m ρ) c _ (hx m ρ c) _ _ _ (hrw m ρ c) (hrb m ρ c) (hidx m ρ c) fun r j => hok.2 _ _ _)
  rw [h]
  rfl

include hok in
theorem w4_hb (r : Fin 4096) (l : Fin 160) : W4 m ρ c (Proc.devRef .tc main_v7_3) (ix2 r (Spec.lcol l))
    = fhb (A0 m c) (A3 m c) (A4 m c) (A5 m c) (A6 m c) (tb r) (ts r) l := by
  have h := KReg.hb_arr (V3 m ρ) c _ (hx m ρ c) _ _ _ _ (hrw m ρ c) (hrb m ρ c) (hidx m ρ c) (fun r j => hok.2 _ _ _) (hla m ρ c)
    (hce m ρ c) r l
  have h' : W4 m ρ c (Proc.devRef .tc main_v7_3) = _ := W4_arr m ρ c 8
  rw [h']
  exact h

/-- The quantiser's scale and its inverse of a token within the range assumed. -/
theorem scales (b : Fin 4) (s : Fin 1024) (hok : Ok (A0 m c) (A5 m c)) :
    Quant.kscale (Spec.vmax (xrow (A0 m c) b s)) = Spec.scale (xrow (A0 m c) b s)
    ∧ Quant.kinv (Spec.vmax (xrow (A0 m c) b s)) = Spec.inv (xrow (A0 m c) b s) := Quant.scales_eq (hok.1 b s)

include hok in
theorem w6_out (r : Fin 4096) (n : Fin 7168) : W6 m ρ c (Proc.devRef .tc main_v9) (ix2 r n)
    = fout (A0 m c) (A1 m c) (A2 m c) (A3 m c) (A4 m c) (A5 m c) (A6 m c) (A7 m c) (tb r) (ts r) n := by
  have h : W6 m ρ c (Proc.devRef .tc main_v9) = _ := (W6_arr m ρ c 6).trans (KReg.out_arr (V5 m ρ) c)
  have e0 : V5 m ρ c main_v7_0 = W4 m ρ c (Proc.devRef .tc main_v7_0) := W5_of m ρ c main_v7_0 (by decide)
  have e1 : V5 m ρ c main_v7_1 = W4 m ρ c (Proc.devRef .tc main_v7_1) := W5_of m ρ c main_v7_1 (by decide)
  have e3 : V5 m ρ c main_v7_3 = W4 m ρ c (Proc.devRef .tc main_v7_3) := W5_of m ρ c main_v7_3 (by decide)
  have ea : V5 m ρ c main_arg1 = m ((c : Thread nD τ).loc main_arg1) := W5_args m ρ c main_arg1 (by decide)
  have eb : V5 m ρ c main_arg7 = m ((c : Thread nD τ).loc main_arg7) := W5_args m ρ c main_arg7 (by decide)
  have e8 : V5 m ρ c main_v8 (ix2 (0 : Fin 1) n) = A2 m c (ix1 n) := by
    have h2 : W4 m ρ c (Proc.devRef .tc main_arg2) = m ((c : Thread nD τ).loc main_arg2) := W4_args m ρ c main_arg2 (by decide)
    have e : W5 m ρ c (Proc.devRef .tc main_v8) = broadcastInDim S1x7168 ![1] bcast_S7168_S1x7168_1 (m ((c : Thread nD τ).loc main_arg2)) := by
      show StableHlo.after hostOps1 _ _ = _
      after_results
      rw [h2]
    refine (congrFun e _).trans (broadcastInDim_apply _ _ _ _ (ix1 n) fun a => ?_)
    match a with
    | ⟨0, _⟩ => rfl
  rw [h]
  show Spec.out (fun k => V5 m ρ c main_v7_0 (ix2 r k)) (fun k => V5 m ρ c main_arg1 (ix2 k n)) (V5 m ρ c main_v7_1 (ix2 r (0 : Fin 128)))
    (V5 m ρ c main_v8 (ix2 (0 : Fin 1) n)) (fun j : Fin 160 => V5 m ρ c main_v7_3 (ix2 r (Spec.lcol j))) (fun j => V5 m ρ c main_arg7 (ix2 j n)) = _
  rw [e8, ea, eb, e0, e1, e3]
  have q0 : (fun k => W4 m ρ c (Proc.devRef .tc main_v7_0) (ix2 r k)) = fcode (A0 m c) (tb r) (ts r) :=
    funext fun k => (w4_codes m ρ c r k).trans (by rw [(scales m c _ _ hok).2]; rfl)
  have q1 : W4 m ρ c (Proc.devRef .tc main_v7_1) (ix2 r (0 : Fin 128)) = Spec.scale (xrow (A0 m c) (tb r) (ts r)) :=
    (w4_xs m ρ c r 0).trans (scales m c _ _ hok).1
  have q3 : (fun l : Fin 160 => W4 m ρ c (Proc.devRef .tc main_v7_3) (ix2 r (Spec.lcol l)))
      = fhb (A0 m c) (A3 m c) (A4 m c) (A5 m c) (A6 m c) (tb r) (ts r) := funext fun l => w4_hb m ρ c hok r l
  rw [q0, q1, q3]
  rfl

include hok in
theorem r_out (b : Fin 4) (s : Fin 1024) (n : Fin 7168) : W7 m ρ c (Proc.devRef .tc main_v10) (ix3 b s n)
    = fout (A0 m c) (A1 m c) (A2 m c) (A3 m c) (A4 m c) (A5 m c) (A6 m c) (A7 m c) b s n := by
  have e : W7 m ρ c (Proc.devRef .tc main_v10)
      = shapeCast S4x1024x7168 (W6 m ρ c (Proc.devRef .tc main_v9)) shapeCasts_S4096x7168_S4x1024x7168 := by
    show StableHlo.after hostOps2 _ _ = _
    after_results <;> rfl
  rw [e]
  refine (shapeCast_apply _ _ _ (ix2 (trow b s) n) ?_).trans ?_
  · rw [Shape.rowMajor_val_three, Shape.rowMajor_val_two]
    rfl
  · rw [w6_out m ρ c hok, tb_trow, ts_trow]

include hok in
theorem r_gates (b : Fin 4) (s : Fin 1024) (j : Fin 2) : W7 m ρ c (Proc.devRef .tc main_v11) (ix3 b s j)
    = fgate (A0 m c) (A3 m c) (A4 m c) (A5 m c) b s j := by
  have e : W7 m ρ c (Proc.devRef .tc main_v11)
      = shapeCast S4x1024x2 (W4 m ρ c (Proc.devRef .tc main_v7_2)) shapeCasts_S4096x2_S4x1024x2 := by
    have h : W6 m ρ c (Proc.devRef .tc main_v7_2) = W4 m ρ c (Proc.devRef .tc main_v7_2) :=
      (W6_of m ρ c main_v7_2 (by decide)).trans (W5_of m ρ c main_v7_2 (by decide))
    rw [← h]
    show StableHlo.after hostOps2 _ _ = _
    after_results <;> rfl
  rw [e]
  refine (shapeCast_apply _ _ _ (ix2 (trow b s) j) ?_).trans ?_
  · rw [Shape.rowMajor_val_three, Shape.rowMajor_val_two]
    rfl
  · rw [w4_gates m ρ c hok, tb_trow, ts_trow]

include hok in
theorem r_codes (b : Fin 4) (s : Fin 1024) (k : Fin 18432) : W7 m ρ c (Proc.devRef .tc main_v12) (ix3 b s k)
    = fcode (A0 m c) b s k := by
  have e : W7 m ρ c (Proc.devRef .tc main_v12)
      = shapeCast S4x1024x18432 (W4 m ρ c (Proc.devRef .tc main_v7_0)) shapeCasts_S4096x18432_S4x1024x18432 := by
    have h : W6 m ρ c (Proc.devRef .tc main_v7_0) = W4 m ρ c (Proc.devRef .tc main_v7_0) :=
      (W6_of m ρ c main_v7_0 (by decide)).trans (W5_of m ρ c main_v7_0 (by decide))
    rw [← h]
    show StableHlo.after hostOps2 _ _ = _
    after_results <;> rfl
  rw [e]
  refine (shapeCast_apply _ _ _ (ix2 (trow b s) k) ?_).trans ?_
  · rw [Shape.rowMajor_val_three, Shape.rowMajor_val_two]
    rfl
  · rw [w4_codes, tb_trow, ts_trow, (scales m c b s hok).2]
    rfl

include hok in
theorem r_scale (b : Fin 4) (s : Fin 1024) : W7 m ρ c (Proc.devRef .tc main_v15) (ix2 b s)
    = Spec.scale (xrow (A0 m c) b s) := by
  have e : W7 m ρ c (Proc.devRef .tc main_v15)
      = shapeCast S4x1024 (shapeCast S4096 (extractStridedSlice S4096x1 ![0, 0] (W4 m ρ c (Proc.devRef .tc main_v7_1))
          slices_S4096x128_S4096x1_0_0) shapeCasts_S4096x1_S4096) shapeCasts_S4096_S4x1024 := by
    have h : W6 m ρ c (Proc.devRef .tc main_v7_1) = W4 m ρ c (Proc.devRef .tc main_v7_1) :=
      (W6_of m ρ c main_v7_1 (by decide)).trans (W5_of m ρ c main_v7_1 (by decide))
    rw [← h]
    show StableHlo.after hostOps2 _ _ = _
    after_results <;> rfl
  rw [e]
  refine (shapeCast_apply _ _ _ (ix1 (trow b s)) ?_).trans ((shapeCast_apply _ _ _ (ix2 (trow b s) (0 : Fin 1)) ?_).trans
    ((slice2_axis1_apply 0 _ _ (trow b s) (0 : Fin 1) (0 : Fin 128) rfl).trans ?_))
  · rw [Shape.rowMajor_val_one, Shape.rowMajor_val_two]
    rfl
  · rw [Shape.rowMajor_val_one, Shape.rowMajor_val_two]
    show (trow b s).val * 1 + 0 = (trow b s).val
    omega
  · rw [w4_xs, tb_trow, ts_trow, (scales m c b s hok).1]

end Cert.KHost

end
-- ==== Proof.KOut.lean ====
/- The kernel's four results as arrays. -/
module

public import proofs.«01_k».proof.Proof.KHost

@[expose] public section

set_option maxRecDepth 16384

noncomputable section

namespace Cert.KOut

open Cert.KernelIdeal Cert.KernelIdeal.Gen Idealize.ShloMosaic Idealize.ShloMosaic.TcCoe Idealize.ShloMosaic.ValueIdx
open Cert.Final Cert.KHost

variable (m : (ℓ : Loc nD τ sig) → Buf (Elt Ideal) ℓ) (ρ : Dev nD → PrngReg) (c : Dev nD) (hok : Ok (A0 m c) (A5 m c))

include hok

theorem o_out : W7 m ρ c (Proc.devRef .tc main_v10)
    = aout (A0 m c) (A1 m c) (A2 m c) (A3 m c) (A4 m c) (A5 m c) (A6 m c) (A7 m c) := by
  refine funext fun i => ?_
  obtain ⟨b, s, n, rfl⟩ : ∃ (b : Fin 4) (s : Fin 1024) (n : Fin 7168), i = ix3 b s n := ⟨i 0, i 1, i 2, eq_ix3 i⟩
  exact r_out m ρ c hok b s n

theorem o_gates : W7 m ρ c (Proc.devRef .tc main_v11) = agate (A0 m c) (A3 m c) (A4 m c) (A5 m c) := by
  refine funext fun i => ?_
  obtain ⟨b, s, n, rfl⟩ : ∃ (b : Fin 4) (s : Fin 1024) (n : Fin 2), i = ix3 b s n := ⟨i 0, i 1, i 2, eq_ix3 i⟩
  exact r_gates m ρ c hok b s n

theorem o_codes : W7 m ρ c (Proc.devRef .tc main_v12) = acode (A0 m c) := by
  refine funext fun i => ?_
  obtain ⟨b, s, n, rfl⟩ : ∃ (b : Fin 4) (s : Fin 1024) (n : Fin 18432), i = ix3 b s n := ⟨i 0, i 1, i 2, eq_ix3 i⟩
  exact r_codes m ρ c hok b s n

theorem o_scale : W7 m ρ c (Proc.devRef .tc main_v15) = ascale (A0 m c) := by
  refine funext fun i => ?_
  obtain ⟨b, s, rfl⟩ : ∃ (b : Fin 4) (s : Fin 1024), i = ix2 b s := ⟨i 0, i 1, eq_ix2 i⟩
  exact r_scale m ρ c hok b s

end Cert.KOut

end
-- ==== Proof.Gather.lean ====
/- The reference's two gathers read at an index: a token's probability at its expert, and a token's gate at a column's expert. -/
module

public import proofs.«01_k».proof.Proof.Gen.ReferenceIdeal.Launch
public import Idealize.ShloMosaic.Lib.ValueIdx

@[expose] public section

noncomputable section

namespace Cert.Gather

open Cert.ReferenceIdeal Cert.ReferenceIdeal.Gen Idealize.ShloMosaic Idealize.ShloMosaic.ValueIdx

/-- The expert an index word is read as: its signed value, held between 0 and 12. -/
def at13 (i : BitVec 32) : Fin 13 := ⟨min i.toInt.toNat 12, by omega⟩

theorem at13_of_lt (i : BitVec 32) (h : i.toNat < 13) : (at13 i).val = i.toNat := by
  show min i.toInt.toNat 12 = i.toNat
  have : i.toInt = (i.toNat : ℤ) := BitVec.toInt_eq_toNat_of_lt (by omega)
  rw [this]
  omega

/-- The two gathers. -/
abbrev G1 : GatherDims S4x1024x13 S4x1024x2x1 S4x1024x2 := gather_S4x1024x13_S4x1024x2x1_S4x1024x2_n_2_01_01_2_3_111
abbrev G2 : GatherDims S4x1024x13 S160x1 S4x1024x160 := gather_S4x1024x13_S160x1_S4x1024x160_01_2_n_n_2_1_410241

theorem take_apply {α : Type} (x : S4x1024x13.Idx → α) (idx : IVec S4x1024x2x1 32) (b : Fin 4) (s : Fin 1024) (j : Fin 2) :
    Host.gather G1 x idx (ix3 b s j) = x (ix3 b s (at13 (idx (ix4 b s j (0 : Fin 1))))) := by
  unfold Host.gather
  congr 1
  funext a
  refine Fin.ext ?_
  show G1.start (ix3 b s j) idx a + G1.batchCoord (ix3 b s j) a + G1.offCoord (ix3 b s j) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  have hs : ∀ a : Fin 3, a ∉ G1.sKept := by decide
  rw [GatherDims.offCoord_eq_zero _ _ _ (hs a)]
  rcases h01 with rfl | rfl | rfl
  · rw [GatherDims.start_batching _ _ _ _ (show (0 : Fin 3) ∈ G1.operandBatchingDims by decide)]
    simp only [Nat.zero_add, Nat.add_zero]
    unfold GatherDims.batchCoord
    rw [dif_pos (show (0 : Fin 3) ∈ G1.operandBatchingDims by decide)]
    rfl
  · rw [GatherDims.start_batching _ _ _ _ (show (1 : Fin 3) ∈ G1.operandBatchingDims by decide)]
    simp only [Nat.zero_add, Nat.add_zero]
    unfold GatherDims.batchCoord
    rw [dif_pos (show (1 : Fin 3) ∈ G1.operandBatchingDims by decide)]
    rfl
  · rw [GatherDims.batchCoord_eq_zero _ _ _ (show (2 : Fin 3) ∉ G1.operandBatchingDims by decide)]
    simp only [Nat.add_zero]
    unfold GatherDims.start
    rw [dif_pos (show (2 : Fin 3) ∈ G1.startIndexMap by decide)]
    have hsi : G1.siIdx (ix3 b s j) ⟨List.idxOf (2 : Fin 3) G1.startIndexMap,
        List.idxOf_lt_length_iff.2 (show (2 : Fin 3) ∈ G1.startIndexMap by decide)⟩ = ix4 b s j (0 : Fin 1) := by
      funext b'; refine Fin.ext ?_
      match b' with
      | ⟨0, _⟩ => rfl
      | ⟨1, _⟩ => rfl
      | ⟨2, _⟩ => rfl
      | ⟨3, _⟩ => rfl
    rw [hsi]
    rfl

theorem col_apply {α : Type} (x : S4x1024x13.Idx → α) (idx : IVec S160x1 32) (b : Fin 4) (s : Fin 1024) (r : Fin 160) :
    Host.gather G2 x idx (ix3 b s r) = x (ix3 b s (at13 (idx (ix2 r (0 : Fin 1))))) := by
  unfold Host.gather
  congr 1
  funext a
  refine Fin.ext ?_
  show G2.start (ix3 b s r) idx a + G2.batchCoord (ix3 b s r) a + G2.offCoord (ix3 b s r) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  have hb : ∀ a : Fin 3, a ∉ G2.operandBatchingDims := by decide
  rw [GatherDims.batchCoord_eq_zero _ _ _ (hb a)]
  rcases h01 with rfl | rfl | rfl
  · unfold GatherDims.start GatherDims.offCoord
    rw [dif_neg (show (0 : Fin 3) ∉ G2.startIndexMap by decide), dif_pos (show (0 : Fin 3) ∈ G2.sKept by decide)]
    simp only [Nat.zero_add, Nat.add_zero]
    rfl
  · unfold GatherDims.start GatherDims.offCoord
    rw [dif_neg (show (1 : Fin 3) ∉ G2.startIndexMap by decide), dif_pos (show (1 : Fin 3) ∈ G2.sKept by decide)]
    simp only [Nat.zero_add, Nat.add_zero]
    rfl
  · rw [GatherDims.offCoord_eq_zero _ _ _ (show (2 : Fin 3) ∉ G2.sKept by decide)]
    simp only [Nat.add_zero]
    unfold GatherDims.start
    rw [dif_pos (show (2 : Fin 3) ∈ G2.startIndexMap by decide)]
    have hsi : G2.siIdx (ix3 b s r) ⟨List.idxOf (2 : Fin 3) G2.startIndexMap,
        List.idxOf_lt_length_iff.2 (show (2 : Fin 3) ∈ G2.startIndexMap by decide)⟩ = ix2 r (0 : Fin 1) := by
      funext b'; refine Fin.ext ?_
      match b' with
      | ⟨0, _⟩ => rfl
      | ⟨1, _⟩ => rfl
    rw [hsi]
    rfl

end Cert.Gather

end
-- ==== Proof.RRead.lean ====
/- The reference's router, gates and LoRA path read at a token. -/
module

public import proofs.«01_k».proof.Proof.Gen.ReferenceIdeal.Read
public import proofs.«01_k».proof.Proof.Final
public import proofs.«01_k».proof.Proof.Gather
public import Idealize.ShloMosaic.Lib.KernelVsHost

@[expose] public section

set_option maxRecDepth 16384

noncomputable section

namespace Cert.RRead

open Cert.ReferenceIdeal Cert.ReferenceIdeal.Gen Cert.ReferenceIdeal.Read Idealize.ShloMosaic Idealize.ShloMosaic.ValueIdx
open Cert.Final

/-- The maximum along the last of three axes, read at the other two. -/
theorem max3 {A B K : ℕ} (x : FVec Ideal ⟨3, ![A, B, K]⟩ .f32) (h : Shape.ReducesTo ⟨3, ![A, B, K]⟩ [2] ⟨2, ![A, B]⟩)
    (hr : Shape.Reduces ⟨3, ![A, B, K]⟩ [2] ⟨2, ![A, B]⟩) (hu : 0 < S_.numel) (b : Fin A) (s : Fin B) :
    Host.reduce FloatOps.maximumf x (constant S_ .f32 0xFF800000#32) h hu (ix2 b s)
      = (Finset.univ : Finset (Fin K)).fold max ⊥ fun k => x (ix3 b s k) := by
  rw [hostReduce_maximumf_eq_multiReduction x _ h hu hr (by decide) (by decide), Ideal.multiReduction_maximumf_single]
  show Finset.fold max (Ideal.ofBits .f32 0xFF800000#32) _ _ = _
  rw [Spec.ofBits_bot]
  refine congrArg (fun f => Finset.fold max ⊥ f (Finset.univ : Finset (Fin K))) (funext fun k => congrArg x ?_)
  funext a
  match a with
  | ⟨0, _⟩ => rfl
  | ⟨1, _⟩ => rfl
  | ⟨2, _⟩ => rfl

/-- The greatest magnitude along the last of three axes. -/
theorem amax3 {A B K : ℕ} (x : FVec Ideal ⟨3, ![A, B, K]⟩ .bf16) (hb : FTy.bits .bf16 < FTy.bits .f32)
    (h : Shape.ReducesTo ⟨3, ![A, B, K]⟩ [2] ⟨2, ![A, B]⟩)
    (hr : Shape.Reduces ⟨3, ![A, B, K]⟩ [2] ⟨2, ![A, B]⟩) (hu : 0 < S_.numel) (b : Fin A) (s : Fin B) :
    Host.reduce FloatOps.maximumf (Host.absf (extf .f32 x hb)) (constant S_ .f32 0xFF800000#32) h hu (ix2 b s)
      = (Finset.univ : Finset (Fin K)).fold max ⊥ fun k => max (x (ix3 b s k)) (-(x (ix3 b s k))) :=
  max3 _ h hr hu b s

variable (x0 : T0.Idx → EReal) (x2 : T2.Idx → EReal) (x3 : T3.Idx → EReal) (x4 : T4.Idx → EReal)
  (x5 : T5.Idx → BitVec 32) (x6 : T6.Idx → EReal) (x7 : T7.Idx → EReal) (b : Fin 4) (s : Fin 1024)

/-- A token's logits. -/
abbrev lg : Fin 13 → EReal := Spec.logit (xrow x0 b s) (fun k e => x3 (ix2 k e)) fun e => x4 (ix1 e)

theorem v32 (e : Fin 13) : val_main_v32 (F := Ideal) x0 x3 x4 (ix3 b s e) = lg x0 x3 x4 b s e := by
  rw [val_main_v32_apply, val_main_v29_apply, val_main_v31_apply, val_main_v30_apply]
  refine congrArg₂ (· + ·) (Finset.sum_congr rfl fun k _ => ?_) ?_
  · rw [show lidx_main_v29 (ix3 b s e) k = ix3 b s k from eq_ix3 _, show ridx_main_v29 (ix3 b s e) k = ix2 k e from eq_ix2 _]
    rfl
  · rw [show idx_main_v30 (idx_main_v31 (ix3 b s e)) = ix1 e from eq_ix1 _]

theorem exp_max (l t : EReal) :
    Ideal.exp (l - max (Ideal.ofBits .f32 0xFF800000#32) t) = Ideal.exp (l - t) := by
  rw [Spec.ofBits_bot, max_eq_right bot_le]

theorem div_zero_add (a t : EReal) : Ideal.div a (Ideal.ofBits .f32 0x00000000#32 + t) = Ideal.div a t := by
  rw [Quant.ofBits_zero, zero_add]

theorem v39 (e : Fin 13) : val_main_v39 (F := Ideal) x0 x3 x4 (ix3 b s e)
    = Ideal.exp (lg x0 x3 x4 b s e - Spec.top (lg x0 x3 x4 b s)) := by
  rw [val_main_v39_apply, val_main_v38_apply, v32, val_main_v37_apply, val_main_v36_apply, val_main_v35_apply, val_main_v34_apply,
    val_main_cst_7_apply]
  rw [show idx_main_v36 (idx_main_v37 (ix3 b s e)) = ix2 b s from eq_ix2 _]
  have h : val_main_v33 (F := Ideal) x0 x3 x4 (ix2 b s) = Spec.top (lg x0 x3 x4 b s) :=
    (max3 _ reducesTo_S4x1024x13_S4x1024_d2 (by decide) h_S_ b s).trans
      (congrArg (fun f => Finset.fold max ⊥ f (Finset.univ : Finset (Fin 13))) (funext fun e => v32 x0 x3 x4 b s e))
  rw [h]
  generalize lg x0 x3 x4 b s e = l
  generalize Spec.top (lg x0 x3 x4 b s) = t
  exact exp_max l t

theorem v43 (e : Fin 13) : val_main_v43 (F := Ideal) x0 x3 x4 (ix3 b s e) = fprob x0 x3 x4 b s e := by
  rw [val_main_v43_apply, v39, val_main_v42_apply, val_main_v41_apply, val_main_v40_apply, val_main_cst_8_apply]
  rw [show idx_main_v41 (idx_main_v42 (ix3 b s e)) = ix2 b s from eq_ix2 _]
  refine (div_zero_add _ _).trans ?_
  unfold fprob Spec.soft
  rw [Finset.sum_congr rfl fun e' _ =>
    (congrArg (val_main_v39 (F := Ideal) x0 x3 x4) (eq_ix3 (idx_main_v40 (ix2 b s) e'))).trans (v39 x0 x3 x4 b s e')]

/-- An index in range is its expert's. -/
theorem ofNat_eq_iff (i : BitVec 32) (h : i.toNat < 13) (e : Fin 13) : BitVec.ofNat 32 e.val = i ↔ e = Gather.at13 i := by
  have ha := Gather.at13_of_lt i h
  constructor
  · rintro rfl
    apply Fin.ext
    rw [ha, BitVec.toNat_ofNat, Nat.mod_eq_of_lt (by omega)]
  · rintro rfl
    rw [ha]
    apply BitVec.eq_of_toNat_eq
    rw [BitVec.toNat_ofNat, Nat.mod_eq_of_lt (by omega)]

theorem pick_eq (p : Fin 13 → EReal) (i : BitVec 32) (h : i.toNat < 13) : Spec.pick p i = p (Gather.at13 i) := by
  unfold Spec.pick
  rw [Finset.sum_congr rfl fun e _ => if_congr (ofNat_eq_iff i h e) rfl rfl]
  simp

variable (hlt : ∀ j, (irow x5 b s j).toNat < 13)

include hlt in
theorem v5 (j : Fin 2) : val_main_call1_v5 (F := Ideal) x5 (ix4 b s j (0 : Fin 1)) = irow x5 b s j := by
  unfold val_main_call1_v5
  refine (shapeCast_apply _ _ _ (ix3 b s j) ?_).trans ?_
  · rw [Shape.rowMajor_val_three, Shape.rowMajor_val_four]
    show (b.val * 1024 + s.val) * 2 + j.val = ((b.val * 1024 + s.val) * 2 + j.val) * 1 + 0
    omega
  · rw [val_main_call1_v4_apply, val_main_call1_v1_apply, val_main_call1_v0_apply, val_main_call1_c_apply]
    have h : IntOp.cmpi .slt (irow x5 b s j) 0#32 = 0#1 := by
      have := hlt j
      have e : (irow x5 b s j).toInt = ((irow x5 b s j).toNat : ℤ) := BitVec.toInt_eq_toNat_of_lt (by omega)
      show BitVec.ofBool (BitVec.slt _ _) = _
      rw [BitVec.slt, e, BitVec.toInt_zero, decide_eq_false (by omega)]
      rfl
    show Scalar.select (IntOp.cmpi .slt (irow x5 b s j) 0#32) _ (irow x5 b s j) = _
    rw [h, select_zero]

include hlt in
theorem v12 (j : Fin 2) : val_main_call1_v12 (F := Ideal) x5 (ix3 b s j) = 1#1 := by
  unfold val_main_call1_v12
  rw [Host.reduce_eq_fold_single IntOp.andi _ _ reducesTo_S4x1024x2x1_S4x1024x2_d3 (by decide) h_S_]
  have hm : ∀ k : Fin 1, val_main_call1_v11 (F := Ideal) x5 ((by decide : Shape.Reduces S4x1024x2x1 [3] S4x1024x2).lift (ix3 b s j) k) = 1#1 := by
    intro k
    have hk : (by decide : Shape.Reduces S4x1024x2x1 [3] S4x1024x2).lift (ix3 b s j) k = ix4 b s j (0 : Fin 1) := by
      obtain rfl : k = 0 := Subsingleton.elim _ _
      funext a
      match a with
      | ⟨0, _⟩ => rfl
      | ⟨1, _⟩ => rfl
      | ⟨2, _⟩ => rfl
      | ⟨3, _⟩ => rfl
    rw [hk, val_main_call1_v11_apply, val_main_call1_v7_apply, val_main_call1_v10_apply, v5 x5 b s hlt, val_main_call1_v6_apply,
      val_main_call1_c_2_apply, val_main_call1_v9_apply, val_main_call1_v8_apply, val_main_call1_c_1_apply]
    have := hlt j
    have e : (irow x5 b s j).toInt = ((irow x5 b s j).toNat : ℤ) := BitVec.toInt_eq_toNat_of_lt (by omega)
    have h1 : IntOp.cmpi .sge (irow x5 b s j) 0#32 = 1#1 := by
      show BitVec.ofBool (BitVec.sle _ _) = _
      rw [BitVec.sle, e]
      simp
    have h2 : IntOp.cmpi .sle (irow x5 b s j) 12#32 = 1#1 := by
      show BitVec.ofBool (BitVec.sle _ _) = _
      rw [BitVec.sle, e, show (12#32 : BitVec 32).toInt = 12 from by decide, decide_eq_true (by omega)]
      rfl
    rw [h1, h2]
    rfl
  have hf : (val_main_call1_v11 (F := Ideal) x5 ∘ (by decide : Shape.Reduces S4x1024x2x1 [3] S4x1024x2).lift (ix3 b s j)) = fun _ => 1#1 :=
    funext hm
  rw [hf]
  rfl

include hlt in
theorem v44 (j : Fin 2) : val_main_v44 (F := Ideal) x0 x3 x4 x5 (ix3 b s j) = Spec.pick (fprob x0 x3 x4 b s) (irow x5 b s j) := by
  rw [val_main_v44_apply, v12 x5 b s hlt, select_one, pick_eq _ _ (hlt j)]
  unfold val_main_call1_v13
  rw [Gather.take_apply, v43, v5 x5 b s hlt]

include hlt in
theorem v48 (j : Fin 2) : val_main_v48 (F := Ideal) x0 x3 x4 x5 (ix3 b s j) = fgate x0 x3 x4 x5 b s j := by
  rw [val_main_v48_apply, v44 _ _ _ _ _ _ hlt, val_main_v47_apply, val_main_v46_apply, val_main_v45_apply, val_main_cst_9_apply]
  rw [show idx_main_v46 (idx_main_v47 (ix3 b s j)) = ix2 b s from eq_ix2 _]
  show Ideal.div _ (Ideal.ofBits .f32 0x00000000#32 + _) = _
  rw [Quant.ofBits_zero, zero_add]
  refine congrArg (Ideal.div _) (Finset.sum_congr rfl fun j' _ => ?_)
  rw [show idx_main_v45 (ix2 b s) j' = ix3 b s j' from eq_ix3 _, v44 _ _ _ _ _ _ hlt]

/-- The gates, spread over the experts. -/
theorem onehot (w : BitVec 32) (n : ℕ) (g : EReal) :
    (FloatOps.uitofp .f32 (IntOp.cmpi .eq w (BitVec.ofNat 32 n)) : Ideal .f32) * g = if BitVec.ofNat 32 n = w then g else 0 := by
  by_cases h : BitVec.ofNat 32 n = w
  · rw [if_pos h, h]
    show (((BitVec.ofBool (w == w)).toNat : ℝ) : EReal) * g = g
    simp
  · rw [if_neg h]
    show (((BitVec.ofBool (w == BitVec.ofNat 32 n)).toNat : ℝ) : EReal) * g = 0
    rw [beq_eq_false_iff_ne.mpr (Ne.symm h)]
    simp

include hlt in
theorem v53 (e : Fin 13) : val_main_v53 (F := Ideal) x0 x3 x4 x5 (ix3 b s e)
    = ∑ j : Fin 2, if BitVec.ofNat 32 e.val = irow x5 b s j then fgate x0 x3 x4 x5 b s j else 0 := by
  rw [val_main_v53_apply, val_main_cst_10_apply]
  show Ideal.ofBits .f32 0x00000000#32 + _ = _
  rw [Quant.ofBits_zero, zero_add]
  refine Finset.sum_congr rfl fun j _ => ?_
  rw [show idx_main_v53 (ix3 b s e) j = ix4 b s j e from eq_ix4 _]
  rw [val_main_v52_apply, val_main_v49_apply, val_main_call2_v4_apply, val_main_call2_v2_apply, val_main_call2_v0_apply,
    val_main_call2_v3_apply, val_main_call2_v1_apply, val_main_v51_apply, val_main_v50_apply]
  rw [show idx_main_call2_v0 (idx_main_call2_v2 (ix4 b s j e)) = ix3 b s j from eq_ix3 _,
    show idx_main_v50 (idx_main_v51 (ix4 b s j e)) = ix3 b s j from eq_ix3 _, v48 _ _ _ _ _ _ hlt]
  exact onehot _ _ _

/-- The expert of a LoRA column, as the reference computes it. -/
theorem v72 (r : Fin 160) : val_main_v72 (F := Ideal) (ix2 r (0 : Fin 1)) = BitVec.ofNat 32 (Spec.cexp r.val) := by
  rw [val_main_v72_apply, val_main_v71_apply, val_main_v68_apply, val_main_v70_apply, val_main_v67_apply, val_main_v69_apply,
    val_main_c_15_apply, val_main_c_16_apply, val_main_v63_apply, val_main_v58_apply, val_main_v62_apply, val_main_v56_apply,
    val_main_v60_apply, val_main_v55_apply, val_main_v57_apply, val_main_v59_apply, val_main_v61_apply, val_main_c_apply,
    val_main_c_11_apply, val_main_c_12_apply, val_main_c_13_apply, val_main_v54_apply]
  revert r
  decide +kernel

theorem cexp_lt : ∀ r : Fin 160, Spec.cexp r.val < 13 := by decide

include hlt in
theorem v75 (r : Fin 160) : val_main_v75 (F := Ideal) x0 x3 x4 x5 x6 (ix3 b s r) = fhb x0 x3 x4 x5 x6 b s r := by
  rw [val_main_v75_apply, val_main_v74_apply, val_main_v64_apply]
  have hc := cexp_lt r
  have h73 : val_main_v73 (F := Ideal) x0 x3 x4 x5 (ix3 b s r)
      = Spec.colgate (fgate x0 x3 x4 x5 b s) (irow x5 b s) r.val * Ideal.ofBits .f32 0x40000000#32 := by
    unfold val_main_v73
    rw [Gather.col_apply, v72, val_main_v66_apply, v53 _ _ _ _ _ _ hlt, val_main_v65_apply, val_main_cst_14_apply,
      Gather.at13_of_lt _ (by rw [BitVec.toNat_ofNat, Nat.mod_eq_of_lt (by omega)]; exact hc), BitVec.toNat_ofNat,
      Nat.mod_eq_of_lt (by omega)]
    rfl
  rw [h73]
  refine congrArg₂ (· * ·) (Finset.sum_congr rfl fun k _ => ?_) rfl
  rw [show lidx_main_v64 (ix3 b s r) k = ix3 b s k from eq_ix3 _, show ridx_main_v64 (ix3 b s r) k = ix2 k r from eq_ix2 _]
  rfl

include hlt in
/-- The reference's result, from the quantised product `r1` and the scales `e0`. -/
theorem v78 (n : Fin 7168) (r1 : S4096x7168.Idx → EReal) (e0 : S4x1024.Idx → EReal) :
    val_main_v78 (F := Ideal) x0 x2 x3 x4 x5 x6 x7 r1 e0 (ix3 b s n)
      = r1 (ix2 (trow b s) n) * e0 (ix2 b s) * x2 (ix1 n) + ∑ r, fhb x0 x3 x4 x5 x6 b s r * x7 (ix2 r n) := by
  rw [val_main_v78_apply, val_main_v77_apply, val_main_v28_apply, val_main_v25_apply, val_main_v24_apply, val_main_v23_apply,
    val_main_v27_apply, val_main_v26_apply, val_main_v76_apply]
  have h22 : val_main_v22 (F := Ideal) r1 (ix3 b s n) = r1 (ix2 (trow b s) n) := by
    unfold val_main_v22
    refine shapeCast_apply _ _ _ _ ?_
    rw [Shape.rowMajor_val_three, Shape.rowMajor_val_two]
    rfl
  rw [h22, show idx_main_v23 (idx_main_v24 (ix3 b s n)) = ix2 b s from eq_ix2 _,
    show idx_main_v26 (idx_main_v27 (ix3 b s n)) = ix1 n from eq_ix1 _]
  refine congrArg₂ (· + ·) rfl (Finset.sum_congr rfl fun r _ => ?_)
  rw [show lidx_main_v76 (ix3 b s n) r = ix3 b s r from eq_ix3 _, show ridx_main_v76 (ix3 b s n) r = ix2 r n from eq_ix2 _,
    v75 _ _ _ _ _ _ _ hlt]

theorem v79 (k : Fin 18432) (r0 : S4096x18432.Idx → EReal) :
    val_main_v79 (F := Ideal) r0 (ix3 b s k) = r0 (ix2 (trow b s) k) := by
  unfold val_main_v79
  refine shapeCast_apply _ _ _ _ ?_
  rw [Shape.rowMajor_val_three, Shape.rowMajor_val_two]
  rfl

end Cert.RRead

end
-- ==== Proof.RQuant.lean ====
/- The reference's quantiser, its scales and their inverses, element by element. -/
module

public import proofs.«01_k».proof.Proof.RRead

@[expose] public section

set_option maxRecDepth 16384

noncomputable section

namespace Cert.RQuant

open Cert.ReferenceIdeal Cert.ReferenceIdeal.Gen Cert.ReferenceIdeal.Read Idealize.ShloMosaic Idealize.ShloMosaic.TcCoe
open Idealize.ShloMosaic.ValueIdx Idealize.ShloMosaic.StableHlo
open Cert.Final

/-! ## The quantiser -/

/-- A row's greatest magnitude as the reference computes it. -/
def eAmax (a0 : FVec Ideal S4x1024x18432 .bf16) : FVec Ideal S4x1024 .f32 :=
  Host.reduce FloatOps.maximumf (Host.absf (extf .f32 a0 bitsLt_bf16_f32)) (constant S_ .f32 0xFF800000#32)
    reducesTo_S4x1024x18432_S4x1024_d2 h_S_

/-- The exponents as the reference computes them. -/
def eExp (a0 : FVec Ideal S4x1024x18432 .bf16) : FVec Ideal S4x1024 .f32 :=
  select (cmpf .oeq (eAmax a0) (broadcastInDim S4x1024 ![] bcast_S_S4x1024 (constant S_ .f32 0x00000000#32)))
    (broadcastInDim S4x1024 ![] bcast_S_S4x1024 (id (constant S_ .f32 0x00000000#32)))
    (addf (Host.floor (Host.divf
        (Host.log (mulf (eAmax a0) (broadcastInDim S4x1024 ![] bcast_S_S4x1024 (constant S_ .f32 0x3B124925#32))))
        (broadcastInDim S4x1024 ![] bcast_S_S4x1024 (Host.log (constant S_ .f32 0x40000000#32)))))
      (broadcastInDim S4x1024 ![] bcast_S_S4x1024 (constant S_ .f32 0x3F800000#32)))

theorem eAmax_ix (a0 : FVec Ideal S4x1024x18432 .bf16) (b : Fin 4) (s : Fin 1024) :
    eAmax a0 (ix2 b s) = Spec.amax (xrow a0 b s) := by
  unfold eAmax Spec.amax xrow
  exact RRead.amax3 (K := 18432) a0 bitsLt_bf16_f32 reducesTo_S4x1024x18432_S4x1024_d2 (by decide) h_S_ b s

/-- The exponent term, on any array of greatest magnitudes. -/
theorem exp_ix (A : FVec Ideal S4x1024 .f32) (i : S4x1024.Idx) :
    select (cmpf .oeq A (broadcastInDim S4x1024 ![] bcast_S_S4x1024 (constant S_ .f32 0x00000000#32)))
      (broadcastInDim S4x1024 ![] bcast_S_S4x1024 (id (constant S_ .f32 0x00000000#32)))
      (addf (Host.floor (Host.divf
          (Host.log (mulf A (broadcastInDim S4x1024 ![] bcast_S_S4x1024 (constant S_ .f32 0x3B124925#32))))
          (broadcastInDim S4x1024 ![] bcast_S_S4x1024 (Host.log (constant S_ .f32 0x40000000#32)))))
        (broadcastInDim S4x1024 ![] bcast_S_S4x1024 (constant S_ .f32 0x3F800000#32))) i
      = Quant.rexpo (A i) (A i * Ideal.ofBits .f32 0x3B124925#32) := by
  unfold Quant.rexpo
  rfl

theorem eExp_ix (a0 : FVec Ideal S4x1024x18432 .bf16) (b : Fin 4) (s : Fin 1024) :
    eExp a0 (ix2 b s) = Quant.rexpo (Spec.amax (xrow a0 b s)) (Spec.vmax (xrow a0 b s)) := by
  unfold Spec.vmax eExp
  rw [exp_ix, eAmax_ix]

/-- The scales and their inverses, on any array of exponents. -/
theorem scale_ix (E : FVec Ideal S4x1024 .f32) (i : S4x1024.Idx) :
    Host.powf (broadcastInDim S4x1024 ![] bcast_S_S4x1024 (constant S_ .f32 0x40000000#32)) E i
      = Ideal.pow (Ideal.ofBits .f32 0x40000000#32) (E i) := rfl

theorem inv_ix (E : FVec Ideal S4x1024 .f32) (i : S4x1024.Idx) :
    Host.powf (broadcastInDim S4x1024 ![] bcast_S_S4x1024 (constant S_ .f32 0x40000000#32)) (Host.negf E) i
      = Ideal.pow (Ideal.ofBits .f32 0x40000000#32) (-(E i)) := rfl

end Cert.RQuant

end
-- ==== Proof.RReg.lean ====
/- The reference's whole-array call and its results, element by element. -/
module

public import proofs.«01_k».proof.Proof.Gen.ReferenceIdeal.Run
public import proofs.«01_k».proof.Proof.RQuant
public import Idealize.ShloMosaic.Lib.Pipeline.ValueKit.Geometry
public import Idealize.ShloMosaic.Lib.Pipeline.ValueKit.Acc

@[expose] public section

set_option maxRecDepth 16384

noncomputable section

namespace Cert.RReg

open Cert.ReferenceIdeal Cert.ReferenceIdeal.Gen Cert.ReferenceIdeal.Read Idealize.ShloMosaic Idealize.ShloMosaic.TcCoe
open Idealize.ShloMosaic.ValueIdx Idealize.ShloMosaic.StableHlo
open Cert.Final Cert.RQuant

/-! ## The arrays the call is entered with -/

variable (m : (ℓ : Loc nD τ sig) → Buf (Elt Ideal) ℓ) (c : Dev nD)

abbrev A0 : FVec Ideal S4x1024x18432 .bf16 := m ((c.tc : Thread nD τ).loc main_arg0)
abbrev A1 : FVec Ideal S18432x7168 .fp8e4m3 := m ((c.tc : Thread nD τ).loc main_arg1)

theorem e_scale (b : Fin 4) (s : Fin 1024) :
    Value.exitV m c (Proc.devRef .tc main_v16) (ix2 b s) = Spec.scale (xrow (A0 m c) b s) := by
  have h := scale_ix (eExp (A0 m c)) (ix2 b s)
  rw [eExp_ix] at h
  unfold eExp eAmax at h
  exact (congrFun (Value.exit_main_v16 m c) (ix2 b s)).trans h

set_option maxHeartbeats 2000000 in
theorem p19 : V m c main_v19 = shapeCast (s := S4x1024x18432) (α := EReal) S4096x18432 (A0 m c) shapeCasts_S4x1024x18432_S4096x18432 := by
  show Gen.V0 m c (Proc.devRef .tc main_v19) = _
  simp only [Gen.V0, Gen.hostOps0, Gen.hostOps0_1, Gen.hostOps0_2, TRef.ternary, TRef.unary, TRef.toBuf, TRef.ofBuf, cast_eq,
    List.flatten_cons, List.flatten_nil, List.append_nil, List.cons_append, List.nil_append]
  after_results <;> rfl

set_option maxHeartbeats 2000000 in
theorem p20 : V m c main_v20 = shapeCast (s := S4x1024) (α := EReal) S4096x1
    (Host.powf (broadcastInDim S4x1024 ![] bcast_S_S4x1024 (constant S_ .f32 0x40000000#32)) (Host.negf (eExp (A0 m c))) : FVec Ideal S4x1024 .f32)
    shapeCasts_S4x1024_S4096x1 := by
  show Gen.V0 m c (Proc.devRef .tc main_v20) = _
  simp only [Gen.V0, Gen.hostOps0, Gen.hostOps0_1, Gen.hostOps0_2, TRef.ternary, TRef.unary, TRef.toBuf, TRef.ofBuf, cast_eq,
    List.flatten_cons, List.flatten_nil, List.append_nil, List.cons_append, List.nil_append]
  after_results <;> rfl

theorem v19_ix (b : Fin 4) (s : Fin 1024) (k : Fin 18432) : V m c main_v19 (ix2 (trow b s) k) = xrow (A0 m c) b s k := by
  rw [p19]
  refine shapeCast_apply (s := S4x1024x18432) (α := EReal) _ _ _ (ix3 b s k) ?_
  rw [Shape.rowMajor_val_three, Shape.rowMajor_val_two]
  rfl

theorem v20_ix (b : Fin 4) (s : Fin 1024) : V m c main_v20 (ix2 (trow b s) (0 : Fin 1)) = Spec.inv (xrow (A0 m c) b s) := by
  rw [p20]
  refine (shapeCast_apply (s := S4x1024) (α := EReal) _ _ _ (ix2 b s) ?_).trans ?_
  · rw [Shape.rowMajor_val_two, Shape.rowMajor_val_two]
    show b.val * 1024 + s.val = (b.val * 1024 + s.val) * 1 + 0
    omega
  · unfold Spec.inv Quant.rinv
    rw [← eExp_ix, inv_ix]

/-! ## What the call leaves -/

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem in0_0 : iblk m c 0 t0_0 = V m c main_v19 := by
  have e := (idx t0_0).1
  refine funext fun j => ?_
  obtain ⟨r, k, rfl⟩ : ∃ (r : Fin 4096) (k : Fin 18432), j = ix2 r k := ⟨j 0, j 1, eq_ix2 j⟩
  blk_ext [iblk, e]

theorem in0_1_ix (A : S4096x1.Idx → EReal) (r : Fin 4096) :
    ((cfg0.win 1).blk t0_0).view.read (Elt Ideal) A (ix2 r (0 : Fin 1)) = A (ix2 r (0 : Fin 1)) := by
  have e := (idx t0_0).2.1
  blk_simp [e]
  refine congrArg A ?_
  funext a
  apply Fin.ext
  fin_cases a <;> blk_simp [e]

theorem in0_1 : iblk m c 1 t0_0 = V m c main_v20 := by
  refine funext fun j => ?_
  obtain ⟨r, k, rfl⟩ : ∃ (r : Fin 4096) (k : Fin 1), j = ix2 r k := ⟨j 0, j 1, eq_ix2 j⟩
  obtain rfl : k = 0 := Subsingleton.elim _ _
  exact in0_1_ix (V m c main_v20) r

theorem in0_2 : iblk m c 2 t0_0 = V m c main_arg1 := by
  have e := (idx t0_0).2.2.1
  refine funext fun j => ?_
  obtain ⟨r, k, rfl⟩ : ∃ (r : Fin 18432) (k : Fin 7168), j = ix2 r k := ⟨j 0, j 1, eq_ix2 j⟩
  blk_ext [iblk, e]

/-- The codes and their product, as the body computes them. -/
theorem pay1 (x : Vec Ideal S4096x18432 .bf16) (v : Vec Ideal S4096x1 .f32) (r : Fin 4096) (k : Fin 18432) :
    k0_pay1 x v (ix2 r k) = Spec.clip (x (ix2 r k)) (v (ix2 r (0 : Fin 1))) := by
  unfold k0_pay1
  rw [truncf_apply, minimumf_apply, maximumf_apply, mulf_apply, Spec.bcol_ix, extf_apply, shapeCast_self, shapeCast_self]
  rfl

theorem pay2 (x : Vec Ideal S4096x18432 .bf16) (v : Vec Ideal S4096x1 .f32) (w : Vec Ideal S18432x7168 .fp8e4m3)
    (r : Fin 4096) (n : Fin 7168) :
    k0_pay2 x v w (ix2 r n) = ∑ k : Fin 18432, Spec.clip (x (ix2 r k)) (v (ix2 r (0 : Fin 1))) * w (ix2 k n) := by
  unfold k0_pay2
  refine (Spec.matmul_ix (φ₁ := .fp8e4m3) (φ₂ := .fp8e4m3) dot_S4096x18432_S18432x7168_S4096x7168_1_0_0_1_n_n _ rfl rfl rfl none (k0_pay1 x v) w r n).trans ?_
  exact Finset.sum_congr rfl fun k _ => by rw [pay1]

theorem pay2_of (x : Vec Ideal S4096x18432 .bf16) (v : Vec Ideal S4096x1 .f32) (w : Vec Ideal S18432x7168 .fp8e4m3)
    (r : Fin 4096) (n : Fin 7168) (X : Fin 18432 → EReal) (i : EReal) (W : Fin 18432 → EReal) (hx : ∀ k, x (ix2 r k) = X k)
    (hv : v (ix2 r (0 : Fin 1)) = i) (hw : ∀ k, w (ix2 k n) = W k) :
    k0_pay2 x v w (ix2 r n) = ∑ k : Fin 18432, Spec.clip (X k) i * W k := by
  rw [pay2]
  exact Finset.sum_congr rfl fun k _ => by rw [hx, hv, hw]

theorem codes_arr : (dats m 0 c).arrAt 3 cfg0.N = k0_pay1 (V m c main_v19) (V m c main_v20) := by
  refine (dats m 0 c).arrAt_eq_of_after_last 3 t0_0 (by decide +kernel) _ fun j => ?_
  have e := (idx t0_0).2.2.2.1
  blk_simp [e]
  rw [after0_3]
  unfold out0_3
  frame_out
  rw [in0_0, in0_1]

theorem acc_arr : (dats m 0 c).arrAt 4 cfg0.N = k0_pay2 (V m c main_v19) (V m c main_v20) (V m c main_arg1) := by
  refine (dats m 0 c).arrAt_eq_of_after_last 4 t0_0 (by decide +kernel) _ fun j => ?_
  have e := (idx t0_0).2.2.2.2
  blk_simp [e]
  rw [after0_4]
  unfold out0_4
  frame_out
  rw [in0_0, in0_1, in0_2]

theorem codes_ix (b : Fin 4) (s : Fin 1024) (k : Fin 18432) :
    Value.exitV m c (Proc.devRef .tc main_v21_0) (ix2 (trow b s) k) = fcode (A0 m c) b s k := by
  rw [Value.exit_main_v21_0]
  unfold Value.reg_main_v21_0
  rw [codes_arr, pay1, v19_ix, v20_ix]
  rfl

theorem acc_ix (b : Fin 4) (s : Fin 1024) (n : Fin 7168) :
    Value.exitV m c (Proc.devRef .tc main_v21_1) (ix2 (trow b s) n) = (∑ k, fcode (A0 m c) b s k * A1 m c (ix2 k n) : EReal) := by
  rw [Value.exit_main_v21_1]
  unfold Value.reg_main_v21_1
  rw [acc_arr]
  refine pay2_of _ _ _ _ n (xrow (A0 m c) b s) _ (fun k => A1 m c (ix2 k n)) (v19_ix m c b s) (v20_ix m c b s) fun k => ?_
  rw [V_main_arg1]

end Cert.RReg

end
-- ==== Proof.ROut.lean ====
/- The reference's four results as arrays. -/
module

public import proofs.«01_k».proof.Proof.RReg

@[expose] public section

set_option maxRecDepth 16384

noncomputable section

namespace Cert.ROut

open Cert.ReferenceIdeal Cert.ReferenceIdeal.Gen Cert.ReferenceIdeal.Read Idealize.ShloMosaic Idealize.ShloMosaic.TcCoe
open Idealize.ShloMosaic.ValueIdx Cert.Final Cert.ReferenceIdeal.Value

variable (m : (ℓ : Loc nD τ sig) → Buf (Elt Ideal) ℓ) (c : Dev nD)

abbrev A0 : T0.Idx → EReal := m ((c : Thread nD τ).loc main_arg0)
abbrev A1 : T1.Idx → EReal := m ((c : Thread nD τ).loc main_arg1)
abbrev A2 : T2.Idx → EReal := m ((c : Thread nD τ).loc main_arg2)
abbrev A3 : T3.Idx → EReal := m ((c : Thread nD τ).loc main_arg3)
abbrev A4 : T4.Idx → EReal := m ((c : Thread nD τ).loc main_arg4)
abbrev A5 : T5.Idx → BitVec 32 := m ((c : Thread nD τ).loc main_arg5)
abbrev A6 : T6.Idx → EReal := m ((c : Thread nD τ).loc main_arg6)
abbrev A7 : T7.Idx → EReal := m ((c : Thread nD τ).loc main_arg7)

theorem o_codes : val_main_v79 (F := Ideal) (exitV m c (Proc.devRef .tc main_v21_0)) = acode (A0 m c) := by
  refine funext fun i => ?_
  obtain ⟨b, s, n, rfl⟩ : ∃ (b : Fin 4) (s : Fin 1024) (n : Fin 18432), i = ix3 b s n := ⟨i 0, i 1, i 2, eq_ix3 i⟩
  exact (RRead.v79 b s n _).trans (RReg.codes_ix m c b s n)

theorem o_scale : exitV m c (Proc.devRef .tc main_v16) = ascale (A0 m c) := by
  refine funext fun i => ?_
  obtain ⟨b, s, rfl⟩ : ∃ (b : Fin 4) (s : Fin 1024), i = ix2 b s := ⟨i 0, i 1, eq_ix2 i⟩
  exact RReg.e_scale m c b s

variable (hlt : ∀ b s j, (irow (A5 m c) b s j).toNat < 13)

include hlt

theorem o_gates : val_main_v48 (F := Ideal) (exitV m c (Proc.devRef .tc main_arg0)) (exitV m c (Proc.devRef .tc main_arg3))
    (exitV m c (Proc.devRef .tc main_arg4)) (exitV m c (Proc.devRef .tc main_arg5))
    = agate (A0 m c) (A3 m c) (A4 m c) (A5 m c) := by
  rw [exit_main_arg0, exit_main_arg3, exit_main_arg4, exit_main_arg5]
  refine funext fun i => ?_
  obtain ⟨b, s, n, rfl⟩ : ∃ (b : Fin 4) (s : Fin 1024) (n : Fin 2), i = ix3 b s n := ⟨i 0, i 1, i 2, eq_ix3 i⟩
  exact RRead.v48 (A0 m c) (A3 m c) (A4 m c) (A5 m c) b s (hlt b s) n

theorem o_out : val_main_v78 (F := Ideal) (exitV m c (Proc.devRef .tc main_arg0)) (exitV m c (Proc.devRef .tc main_arg2))
    (exitV m c (Proc.devRef .tc main_arg3)) (exitV m c (Proc.devRef .tc main_arg4)) (exitV m c (Proc.devRef .tc main_arg5))
    (exitV m c (Proc.devRef .tc main_arg6)) (exitV m c (Proc.devRef .tc main_arg7)) (exitV m c (Proc.devRef .tc main_v21_1))
    (exitV m c (Proc.devRef .tc main_v16))
    = aout (A0 m c) (A1 m c) (A2 m c) (A3 m c) (A4 m c) (A5 m c) (A6 m c) (A7 m c) := by
  rw [exit_main_arg0, exit_main_arg2, exit_main_arg3, exit_main_arg4, exit_main_arg5, exit_main_arg6, exit_main_arg7]
  refine funext fun i => ?_
  obtain ⟨b, s, n, rfl⟩ : ∃ (b : Fin 4) (s : Fin 1024) (n : Fin 7168), i = ix3 b s n := ⟨i 0, i 1, i 2, eq_ix3 i⟩
  refine (RRead.v78 (A0 m c) (A2 m c) (A3 m c) (A4 m c) (A5 m c) (A6 m c) (A7 m c) b s (hlt b s) n _ _).trans ?_
  rw [RReg.acc_ix, RReg.e_scale]
  show _ = fout (A0 m c) (A1 m c) (A2 m c) (A3 m c) (A4 m c) (A5 m c) (A6 m c) (A7 m c) b s n
  unfold fout Spec.out
  rfl

end Cert.ROut

end
-- ==== Proof.Pre.lean ====
/- What the precondition says of the arguments. -/
module

public import proofs.«01_k».proof.Proof.Gen.Pre_in_range
public import proofs.«01_k».proof.Proof.RRead

@[expose] public section

set_option maxRecDepth 16384

noncomputable section

namespace Cert.PreRead

open Idealize.ShloMosaic Idealize.ShloMosaic.ValueIdx Cert.Final

theorem or_one (a b : BitVec 1) : a ||| b = 1#1 ↔ a = 1#1 ∨ b = 1#1 := by revert a b; decide
theorem and_one (a b : BitVec 1) : a &&& b = 1#1 ↔ a = 1#1 ∧ b = 1#1 := by revert a b; decide
theorem ofBool_one (a : Bool) : BitVec.ofBool a = 1#1 ↔ a = true := by cases a <;> decide

theorem ofBits_min : Ideal.ofBits .f32 0x00800000#32 = (((2 : ℝ) ^ (-126 : ℤ) : ℝ) : EReal) := by
  simp [Ideal.ofBits, Ideal.ieee]
  rw [← EReal.coe_mul]; norm_num

theorem ofBits_max : Ideal.ofBits .f32 0x7E800000#32 = (((2 : ℝ) ^ (126 : ℤ) : ℝ) : EReal) := by
  have h : Ideal.ofBits .f32 0x7E800000#32 = (((8388608 : ℝ) * 2 ^ 103 : ℝ) : EReal) := by
    simp [Ideal.ofBits, Ideal.ieee]
  rw [h]; norm_num

/-- The token test, on one token's greatest magnitude. -/
theorem tok_of (a : EReal)
    (h : (Ideal.cmp .oeq a (Ideal.ofBits .f32 0x00000000#32)
      ||| (Ideal.cmp .oge (a * Ideal.ofBits .f32 0x3B124925#32) (Ideal.ofBits .f32 0x00800000#32)
        &&& Ideal.cmp .olt (a * Ideal.ofBits .f32 0x3B124925#32) (Ideal.ofBits .f32 0x7E800000#32))) = 1#1) :
    Quant.Tok a (a * Ideal.ofBits .f32 0x3B124925#32) := by
  rw [or_one, and_one, ofBits_min, ofBits_max, Quant.ofBits_zero] at h
  by_cases ha : a = 0
  · left; exact ⟨ha, by rw [ha, zero_mul]⟩
  · right
    rcases h with h | ⟨h1, h2⟩
    · exact absurd (of_decide_eq_true ((ofBool_one _).mp h)) ha
    · exact ⟨ha, of_decide_eq_true ((ofBool_one _).mp h1), of_decide_eq_true ((ofBool_one _).mp h2)⟩

/-- The index test, on one index. -/
theorem idx_of (i : BitVec 32) (h : (IntOp.cmpi .sge i 0#32 &&& IntOp.cmpi .slt i 13#32) = 1#1) : i.toNat < 13 := by
  rw [and_one] at h
  obtain ⟨h1, h2⟩ := h
  have h1' : (0#32 : BitVec 32).toInt ≤ i.toInt := by
    have : BitVec.ofBool (BitVec.sle 0#32 i) = 1#1 := h1
    simpa [BitVec.sle] using (ofBool_one _).mp this
  have h2' : i.toInt < (13#32 : BitVec 32).toInt := by
    have : BitVec.ofBool (BitVec.slt i 13#32) = 1#1 := h2
    simpa [BitVec.slt] using (ofBool_one _).mp this
  have e0 : (0#32 : BitVec 32).toInt = 0 := by decide
  have e13 : (13#32 : BitVec 32).toInt = 13 := by decide
  rw [e0] at h1'
  rw [e13] at h2'
  have := BitVec.toInt_eq_toNat_cond i
  have := i.isLt
  split at * <;> omega

attribute [local instance] Cert.Pre_in_range.Gen.facts

open Cert.Pre_in_range

/-- The token test, on any array of greatest magnitudes. -/
theorem tok_ix (A : FVec Ideal S4x1024 .f32) (i : S4x1024.Idx)
    (h : ori (cmpf .oeq A (broadcastInDim S4x1024 ![] Facts.bcast_S_S4x1024 (constant S_ .f32 0x00000000#32)))
      (andi (cmpf .oge (mulf A (broadcastInDim S4x1024 ![] Facts.bcast_S_S4x1024 (constant S_ .f32 0x3B124925#32)))
          (broadcastInDim S4x1024 ![] Facts.bcast_S_S4x1024 (constant S_ .f32 0x00800000#32)))
        (cmpf .olt (mulf A (broadcastInDim S4x1024 ![] Facts.bcast_S_S4x1024 (constant S_ .f32 0x3B124925#32)))
          (broadcastInDim S4x1024 ![] Facts.bcast_S_S4x1024 (constant S_ .f32 0x7E800000#32)))) i = 1#1) :
    Quant.Tok (A i) (A i * Ideal.ofBits .f32 0x3B124925#32) := tok_of (A i) h

/-- The index test. -/
theorem idx_ix (a5 : IVec S4x1024x2 32) (i : S4x1024x2.Idx)
    (h : andi (cmpi .sge a5 (broadcastInDim S4x1024x2 ![] Facts.bcast_S_S4x1024x2 (constantI S_ 32 0#32)))
      (cmpi .slt a5 (broadcastInDim S4x1024x2 ![] Facts.bcast_S_S4x1024x2 (constantI S_ 32 13#32))) i = 1#1) :
    (a5 i).toNat < 13 := idx_of (a5 i) h

/-- The greatest magnitudes, as the precondition computes them. -/
def pAmax (a0 : FVec Ideal S4x1024x18432 .bf16) : FVec Ideal S4x1024 .f32 :=
  Host.reduce FloatOps.maximumf (Host.absf (extf .f32 a0 Facts.bitsLt_bf16_f32)) (constant S_ .f32 0xFF800000#32)
    Facts.reducesTo_S4x1024x18432_S4x1024_d2 Facts.h_S_

theorem pAmax_ix (a0 : FVec Ideal S4x1024x18432 .bf16) (b : Fin 4) (s : Fin 1024) :
    pAmax a0 (ix2 b s) = Spec.amax (xrow a0 b s) := by
  unfold pAmax Spec.amax xrow
  exact RRead.amax3 (K := 18432) a0 Facts.bitsLt_bf16_f32 Facts.reducesTo_S4x1024x18432_S4x1024_d2 (by decide) Facts.h_S_ b s

theorem ok_of (a0 : FVec Ideal S4x1024x18432 .bf16) (a1 : FVec Ideal S18432x7168 .fp8e4m3) (a2 : FVec Ideal S7168 .f32)
    (a3 : FVec Ideal S18432x13 .bf16) (a4 : FVec Ideal S13 .f32) (a5 : IVec S4x1024x2 32) (a6 : FVec Ideal S18432x160 .bf16)
    (a7 : FVec Ideal S160x7168 .bf16)
    (h1 : (fn (F := Ideal) a0 a1 a2 a3 a4 a5 a6 a7).1 = fun _ => 1#1)
    (h2 : (fn (F := Ideal) a0 a1 a2 a3 a4 a5 a6 a7).2 = fun _ => 1#1) : Ok a0 a5 := by
  refine ⟨fun b s => ?_, fun b s j => ?_⟩
  · have h := tok_ix (pAmax a0) (ix2 b s)
    rw [pAmax_ix] at h
    unfold pAmax at h
    unfold Spec.vmax
    exact h (congrFun h1 (ix2 b s))
  · exact idx_ix a5 (ix3 b s j) (congrFun h2 (ix3 b s j))

end Cert.PreRead

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_in_range
public import proofs.«01_k».proof.Proof.KRun
public import proofs.«01_k».proof.Proof.KOut
public import proofs.«01_k».proof.Proof.ROut
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem

/-- Both idealized programs end with the four arrays of `Cert.Final`. -/
theorem algebraic : algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  have hok : ∀ c, Final.Ok (KHost.A0 m c) (KHost.A5 m c) := fun c => PreRead.ok_of _ _ _ _ _ _ _ _ (hpre c).1 (hpre c).2
  refine ⟨fun c => Final.aout (KHost.A0 m c) (KHost.A1 m c) (KHost.A2 m c) (KHost.A3 m c) (KHost.A4 m c) (KHost.A5 m c)
      (KHost.A6 m c) (KHost.A7 m c), fun c => Final.agate (KHost.A0 m c) (KHost.A3 m c) (KHost.A4 m c) (KHost.A5 m c),
    fun c => Final.acode (KHost.A0 m c), fun c => Final.ascale (KHost.A0 m c), ?_, ?_⟩
  · refine (θ_run _ _ _).mono (fun r h c => ?_) (KRun.run m g)
    obtain ⟨h0, h1, h2, h3, ha⟩ := h c
    exact ⟨h0.trans (KOut.o_out m g c (hok c)), h1.trans (KOut.o_gates m g c (hok c)), h2.trans (KOut.o_codes m g c (hok c)),
      h3.trans (KOut.o_scale m g c (hok c)), ha⟩
  · refine (θ_run _ _ _).mono (fun r h c => ?_) (Cert.ReferenceIdeal.Value.run m' g')
    obtain ⟨h0, h1, h2, h3, ha⟩ := h c
    obtain ⟨e0, e1, e2, e3, e4, e5, e6, e7⟩ := hargs c
    have a0 : ROut.A0 m' c = KHost.A0 m c := e0
    have a1 : ROut.A1 m' c = KHost.A1 m c := e1
    have a2 : ROut.A2 m' c = KHost.A2 m c := e2
    have a3 : ROut.A3 m' c = KHost.A3 m c := e3
    have a4 : ROut.A4 m' c = KHost.A4 m c := e4
    have a5 : ROut.A5 m' c = KHost.A5 m c := e5
    have a6 : ROut.A6 m' c = KHost.A6 m c := e6
    have a7 : ROut.A7 m' c = KHost.A7 m c := e7
    have hlt : ∀ b s j, (Final.irow (ROut.A5 m' c) b s j).toNat < 13 := by rw [a5]; exact (hok c).2
    have r0 := ROut.o_out m' c hlt
    have r1 := ROut.o_gates m' c hlt
    have r2 := ROut.o_codes m' c
    have r3 := ROut.o_scale m' c
    rw [a0, a1, a2, a3, a4, a5, a6, a7] at r0
    rw [a0, a3, a4, a5] at r1
    rw [a0] at r2 r3
    exact ⟨h0.trans ((Cert.ReferenceIdeal.Read.val_main_v78_eq _).trans r0),
      h1.trans ((Cert.ReferenceIdeal.Read.val_main_v48_eq _).trans r1),
      h2.trans ((Cert.ReferenceIdeal.Read.val_main_v79_eq _).trans r2),
      h3.trans ((Cert.ReferenceIdeal.Value.exit_main_v16 m' c).symm.trans r3), ha⟩

theorem claim : Cert.Claim :=
  ⟨Cert.Kernel.Gen.facts, Cert.KernelIdeal.Gen.facts, Cert.ReferenceIdeal.Gen.facts, Cert.Pre_in_range.Gen.facts,
    fun m g _ => Cert.Kernel.Gen.frame m g, fun m g _ => Cert.KernelIdeal.Gen.frame m g,
    fun m g _ => Cert.KernelIdeal.Gen.frame m g, fun m g _ => Cert.ReferenceIdeal.Gen.frame m g,
    fun m g _ => Cert.ReferenceIdeal.Gen.frame m g, trivial, algebraic⟩

end Cert.Proof

end
